-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_x_KernelIdeal [hPre_finite_x_KernelIdeal : Cert.Pre_finite_x_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_x_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_x_ReferenceIdeal [hPre_finite_x_ReferenceIdeal : Cert.Pre_finite_x_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_x_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_x_KernelIdeal [hKernelIdeal : Cert.KernelIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_x_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_x_ReferenceIdeal [hReferenceIdeal : Cert.ReferenceIdeal.Facts] [hPre_finite_x_ReferenceIdeal : Cert.Pre_finite_x_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_x_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite_x_KernelIdeal [hKernelIdeal : Cert.KernelIdeal.Facts] [hReferenceIdeal : Cert.ReferenceIdeal.Facts] [hPre_finite_x_KernelIdeal : Cert.Pre_finite_x_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_x_KernelIdeal m →
    (∀ c : Dev Cert.KernelIdeal.nD,
      m ((c.tc : Thread Cert.KernelIdeal.nD Cert.KernelIdeal.τ).loc Cert.KernelIdeal.main_arg0) = Layout.block ⟨3, ![4, 1024, 256]⟩ ⟨3, ![4, 1024, 1024]⟩ 2 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 1024]⟩ 1 4 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 1024, 256]⟩ ⟨3, ![4, 1024, 1024]⟩ 2 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_x_KernelIdeal : Cert.Pre_finite_x_KernelIdeal.Facts) (hPre_finite_x_ReferenceIdeal : Cert.Pre_finite_x_ReferenceIdeal.Facts),
    quiescent_Kernel (hKernel := hKernel)
    ∧ quiescent_KernelIdeal (hKernelIdeal := hKernelIdeal)
    ∧ quiescent_KernelIdeal_pre_finite_x_KernelIdeal (hKernelIdeal := hKernelIdeal) (hPre_finite_x_KernelIdeal := hPre_finite_x_KernelIdeal)
    ∧ quiescent_ReferenceIdeal (hReferenceIdeal := hReferenceIdeal)
    ∧ quiescent_ReferenceIdeal_pre_finite_x_ReferenceIdeal (hReferenceIdeal := hReferenceIdeal) (hPre_finite_x_ReferenceIdeal := hPre_finite_x_ReferenceIdeal)
    ∧ preserves_Kernel_KernelIdeal
    ∧ algebraic_KernelIdeal_ReferenceIdeal_pre_finite_x_KernelIdeal (hKernelIdeal := hKernelIdeal) (hReferenceIdeal := hReferenceIdeal) (hPre_finite_x_KernelIdeal := hPre_finite_x_KernelIdeal)
-- ==== Pre_finite_x_KernelIdeal.lean ====
abbrev S4x1024x256 : Shape := ⟨3, ![4, 1024, 256]⟩
abbrev S4x128 : Shape := ⟨2, ![4, 128]⟩
abbrev S128x256 : Shape := ⟨2, ![128, 256]⟩
abbrev S_ : Shape := ⟨0, ![]⟩

class Facts : Prop where
  bcast_S_S4x1024x256 : S_.BroadcastsInDim S4x1024x256 (![] : Fin 0 → Fin S4x1024x256.rank)

variable [Facts]

def fn {F : FTy → Type} [FloatOps F] (main_arg0 : FVec F S4x1024x256 .f32) (main_arg1 : FVec F S4x128 .f32) (main_arg2 : FVec F S128x256 .f32) (main_arg3 : FVec F S128x256 .f32) : IVec S4x1024x256 1 :=
  let main_v0 : FVec F S4x1024x256 .f32 := Host.absf main_arg0
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  main_v2
-- ==== Pre_finite_x_ReferenceIdeal.lean ====
abbrev S4x1024x1024 : Shape := ⟨3, ![4, 1024, 1024]⟩
abbrev S4x128 : Shape := ⟨2, ![4, 128]⟩
abbrev S128x1024 : Shape := ⟨2, ![128, 1024]⟩
abbrev S_ : Shape := ⟨0, ![]⟩

class Facts : Prop where
  bcast_S_S4x1024x1024 : S_.BroadcastsInDim S4x1024x1024 (![] : Fin 0 → Fin S4x1024x1024.rank)

variable [Facts]

def fn {F : FTy → Type} [FloatOps F] (main_arg0 : FVec F S4x1024x1024 .f32) (main_arg1 : FVec F S4x128 .f32) (main_arg2 : FVec F S128x1024 .f32) (main_arg3 : FVec F S128x1024 .f32) : IVec S4x1024x1024 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  main_v2
-- ==== Kernel.lean ====
abbrev S4x1024x256 : Shape := ⟨3, ![4, 1024, 256]⟩
abbrev S4x128 : Shape := ⟨2, ![4, 128]⟩
abbrev S128x256 : Shape := ⟨2, ![128, 256]⟩
abbrev S4x8x256 : Shape := ⟨3, ![4, 8, 256]⟩
abbrev S4x3x8x256 : Shape := ⟨4, ![4, 3, 8, 256]⟩
abbrev S4x3 : Shape := ⟨2, ![4, 3]⟩
abbrev S_ : Shape := ⟨0, ![]⟩
abbrev S4x256x256 : Shape := ⟨3, ![4, 256, 256]⟩
abbrev S4x256 : Shape := ⟨2, ![4, 256]⟩
abbrev S8x256 : Shape := ⟨2, ![8, 256]⟩
abbrev S1x8x256 : Shape := ⟨3, ![1, 8, 256]⟩
abbrev S1x1 : Shape := ⟨2, ![1, 1]⟩
abbrev S1x1x8x256 : Shape := ⟨4, ![1, 1, 8, 256]⟩
abbrev S4x1x256 : Shape := ⟨3, ![4, 1, 256]⟩
abbrev S4x256x1 : Shape := ⟨3, ![4, 256, 1]⟩

abbrev nBuf : Space → Nat
  | .hbm => 5
  | .vmem => 7
  | .smem => 0
  | _ => 0

abbrev bufTy : (tb : Table) → Fin (tcTables nBuf tb) → BufTy
  | .hbm, ⟨0, _⟩ => ⟨S4x1024x256, .f32⟩
  | .hbm, ⟨1, _⟩ => ⟨S4x128, .f32⟩
  | .hbm, ⟨2, _⟩ => ⟨S128x256, .f32⟩
  | .hbm, ⟨3, _⟩ => ⟨S128x256, .f32⟩
  | .hbm, ⟨4, _⟩ => ⟨S4x1024x256, .f32⟩
  | .local _ .vmem, ⟨0, _⟩ => ⟨S4x1024x256, .f32⟩
  | .local _ .vmem, ⟨1, _⟩ => ⟨S4x128, .f32⟩
  | .local _ .vmem, ⟨2, _⟩ => ⟨S128x256, .f32⟩
  | .local _ .vmem, ⟨3, _⟩ => ⟨S128x256, .f32⟩
  | .local _ .vmem, ⟨4, _⟩ => ⟨S4x1024x256, .f32⟩
  | .local _ .vmem, ⟨5, _⟩ => ⟨S4x8x256, .f32⟩
  | .local _ .vmem, ⟨6, _⟩ => ⟨S4x3x8x256, .f32⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_34 : BitVec 32 := 1#32
  let v52 : BitVec 32 := Scalar.addi v2 c1_i32_34
  let c4_i32_35 : BitVec 32 := 4#32
  let c0_i32_36 : BitVec 32 := 0#32
  let v53 : BitVec 1 := Scalar.cmpi .eq c4_i32_35 c0_i32_36
  let c1_i32_37 : BitVec 32 := 1#32
  let v54 : BitVec 32 := Scalar.select v53 c1_i32_37 c4_i32_35
  let v55 : BitVec 32 := Scalar.remsi v52 v54
  let c0_i32_39 : BitVec 32 := 0#32
  let v57 : BitVec 1 := Scalar.cmpi .slt v55 c0_i32_39
  let c0_i32_40 : BitVec 32 := 0#32
  let v58 : BitVec 1 := Scalar.cmpi .slt v54 c0_i32_40
  let v59 : BitVec 1 := Scalar.xori v57 v58
  let c0_i32_38 : BitVec 32 := 0#32
  let v56 : BitVec 1 := Scalar.cmpi .ne v55 c0_i32_38
  let v60 : BitVec 1 := Scalar.andi v59 v56
  let v61 : BitVec 32 := Scalar.addi v55 v54
  let v62 : BitVec 32 := Scalar.select v60 v61 v55
  let c1_i32_62 : BitVec 32 := 1#32
  let v85 : BitVec 32 := Scalar.muli v62 c1_i32_62
  let v86 : BitVec 32 := Scalar.addi c0_i32_63 v85
  v86.toNat
def k0_dev5 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_41 : BitVec 32 := 2#32
  let v63 : BitVec 32 := Scalar.addi v2 c2_i32_41
  let c4_i32_42 : BitVec 32 := 4#32
  let c0_i32_43 : BitVec 32 := 0#32
  let v64 : BitVec 1 := Scalar.cmpi .eq c4_i32_42 c0_i32_43
  let c1_i32_44 : BitVec 32 := 1#32
  let v65 : BitVec 32 := Scalar.select v64 c1_i32_44 c4_i32_42
  let v66 : BitVec 32 := Scalar.remsi v63 v65
  let c0_i32_46 : BitVec 32 := 0#32
  let v68 : BitVec 1 := Scalar.cmpi .slt v66 c0_i32_46
  let c0_i32_47 : BitVec 32 := 0#32
  let v69 : BitVec 1 := Scalar.cmpi .slt v65 c0_i32_47
  let v70 : BitVec 1 := Scalar.xori v68 v69
  let c0_i32_45 : BitVec 32 := 0#32
  let v67 : BitVec 1 := Scalar.cmpi .ne v66 c0_i32_45
  let v71 : BitVec 1 := Scalar.andi v70 v67
  let v72 : BitVec 32 := Scalar.addi v66 v65
  let v73 : BitVec 32 := Scalar.select v71 v72 v66
  let c1_i32_75 : BitVec 32 := 1#32
  let v95 : BitVec 32 := Scalar.muli v73 c1_i32_75
  let v96 : BitVec 32 := Scalar.addi c0_i32_76 v95
  v96.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_48 : BitVec 32 := 3#32
  let v74 : BitVec 32 := Scalar.addi v2 c3_i32_48
  let c4_i32_49 : BitVec 32 := 4#32
  let c0_i32_50 : BitVec 32 := 0#32
  let v75 : BitVec 1 := Scalar.cmpi .eq c4_i32_49 c0_i32_50
  let c1_i32_51 : BitVec 32 := 1#32
  let v76 : BitVec 32 := Scalar.select v75 c1_i32_51 c4_i32_49
  let v77 : BitVec 32 := Scalar.remsi v74 v76
  let c0_i32_53 : BitVec 32 := 0#32
  let v79 : BitVec 1 := Scalar.cmpi .slt v77 c0_i32_53
  let c0_i32_54 : BitVec 32 := 0#32
  let v80 : BitVec 1 := Scalar.cmpi .slt v76 c0_i32_54
  let v81 : BitVec 1 := Scalar.xori v79 v80
  let c0_i32_52 : BitVec 32 := 0#32
  let v78 : BitVec 1 := Scalar.cmpi .ne v77 c0_i32_52
  let v82 : BitVec 1 := Scalar.andi v81 v78
  let v83 : BitVec 32 := Scalar.addi v77 v76
  let v84 : BitVec 32 := Scalar.select v82 v83 v77
  let c1_i32_88 : BitVec 32 := 1#32
  let v105 : BitVec 32 := Scalar.muli v84 c1_i32_88
  let v106 : BitVec 32 := Scalar.addi c0_i32_89 v105
  v106.toNat
def k0_dev7 (d0 : Dev nD) : Nat :=
  let c0_i32_129 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_100 : BitVec 32 := 1#32
  let v124 : BitVec 32 := Scalar.addi v2 c1_i32_100
  let c4_i32_101 : BitVec 32 := 4#32
  let c0_i32_102 : BitVec 32 := 0#32
  let v125 : BitVec 1 := Scalar.cmpi .eq c4_i32_101 c0_i32_102
  let c1_i32_103 : BitVec 32 := 1#32
  let v126 : BitVec 32 := Scalar.select v125 c1_i32_103 c4_i32_101
  let v127 : BitVec 32 := Scalar.remsi v124 v126
  let c0_i32_105 : BitVec 32 := 0#32
  let v129 : BitVec 1 := Scalar.cmpi .slt v127 c0_i32_105
  let c0_i32_106 : BitVec 32 := 0#32
  let v130 : BitVec 1 := Scalar.cmpi .slt v126 c0_i32_106
  let v131 : BitVec 1 := Scalar.xori v129 v130
  let c0_i32_104 : BitVec 32 := 0#32
  let v128 : BitVec 1 := Scalar.cmpi .ne v127 c0_i32_104
  let v132 : BitVec 1 := Scalar.andi v131 v128
  let v133 : BitVec 32 := Scalar.addi v127 v126
  let v134 : BitVec 32 := Scalar.select v132 v133 v127
  let c1_i32_128 : BitVec 32 := 1#32
  let v157 : BitVec 32 := Scalar.muli v134 c1_i32_128
  let v158 : BitVec 32 := Scalar.addi c0_i32_129 v157
  v158.toNat
def k0_dev8 (d0 : Dev nD) : Nat :=
  let c0_i32_142 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_107 : BitVec 32 := 2#32
  let v135 : BitVec 32 := Scalar.addi v2 c2_i32_107
  let c4_i32_108 : BitVec 32 := 4#32
  let c0_i32_109 : BitVec 32 := 0#32
  let v136 : BitVec 1 := Scalar.cmpi .eq c4_i32_108 c0_i32_109
  let c1_i32_110 : BitVec 32 := 1#32
  let v137 : BitVec 32 := Scalar.select v136 c1_i32_110 c4_i32_108
  let v138 : BitVec 32 := Scalar.remsi v135 v137
  let c0_i32_112 : BitVec 32 := 0#32
  let v140 : BitVec 1 := Scalar.cmpi .slt v138 c0_i32_112
  let c0_i32_113 : BitVec 32 := 0#32
  let v141 : BitVec 1 := Scalar.cmpi .slt v137 c0_i32_113
  let v142 : BitVec 1 := Scalar.xori v140 v141
  let c0_i32_111 : BitVec 32 := 0#32
  let v139 : BitVec 1 := Scalar.cmpi .ne v138 c0_i32_111
  let v143 : BitVec 1 := Scalar.andi v142 v139
  let v144 : BitVec 32 := Scalar.addi v138 v137
  let v145 : BitVec 32 := Scalar.select v143 v144 v138
  let c1_i32_141 : BitVec 32 := 1#32
  let v167 : BitVec 32 := Scalar.muli v145 c1_i32_141
  let v168 : BitVec 32 := Scalar.addi c0_i32_142 v167
  v168.toNat
def k0_dev9 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_114 : BitVec 32 := 3#32
  let v146 : BitVec 32 := Scalar.addi v2 c3_i32_114
  let c4_i32_115 : BitVec 32 := 4#32
  let c0_i32_116 : BitVec 32 := 0#32
  let v147 : BitVec 1 := Scalar.cmpi .eq c4_i32_115 c0_i32_116
  let c1_i32_117 : BitVec 32 := 1#32
  let v148 : BitVec 32 := Scalar.select v147 c1_i32_117 c4_i32_115
  let v149 : BitVec 32 := Scalar.remsi v146 v148
  let c0_i32_119 : BitVec 32 := 0#32
  let v151 : BitVec 1 := Scalar.cmpi .slt v149 c0_i32_119
  let c0_i32_120 : BitVec 32 := 0#32
  let v152 : BitVec 1 := Scalar.cmpi .slt v148 c0_i32_120
  let v153 : BitVec 1 := Scalar.xori v151 v152
  let c0_i32_118 : BitVec 32 := 0#32
  let v150 : BitVec 1 := Scalar.cmpi .ne v149 c0_i32_118
  let v154 : BitVec 1 := Scalar.andi v153 v150
  let v155 : BitVec 32 := Scalar.addi v149 v148
  let v156 : BitVec 32 := Scalar.select v154 v155 v149
  let c1_i32_154 : BitVec 32 := 1#32
  let v177 : BitVec 32 := Scalar.muli v156 c1_i32_154
  let v178 : BitVec 32 := Scalar.addi c0_i32_155 v177
  v178.toNat
def k0_dev10 (d0 : Dev nD) : Nat :=
  let c0_i32_195 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_166 : BitVec 32 := 1#32
  let v196 : BitVec 32 := Scalar.addi v2 c1_i32_166
  let c4_i32_167 : BitVec 32 := 4#32
  let c0_i32_168 : BitVec 32 := 0#32
  let v197 : BitVec 1 := Scalar.cmpi .eq c4_i32_167 c0_i32_168
  let c1_i32_169 : BitVec 32 := 1#32
  let v198 : BitVec 32 := Scalar.select v197 c1_i32_169 c4_i32_167
  let v199 : BitVec 32 := Scalar.remsi v196 v198
  let c0_i32_171 : BitVec 32 := 0#32
  let v201 : BitVec 1 := Scalar.cmpi .slt v199 c0_i32_171
  let c0_i32_172 : BitVec 32 := 0#32
  let v202 : BitVec 1 := Scalar.cmpi .slt v198 c0_i32_172
  let v203 : BitVec 1 := Scalar.xori v201 v202
  let c0_i32_170 : BitVec 32 := 0#32
  let v200 : BitVec 1 := Scalar.cmpi .ne v199 c0_i32_170
  let v204 : BitVec 1 := Scalar.andi v203 v200
  let v205 : BitVec 32 := Scalar.addi v199 v198
  let v206 : BitVec 32 := Scalar.select v204 v205 v199
  let c1_i32_194 : BitVec 32 := 1#32
  let v229 : BitVec 32 := Scalar.muli v206 c1_i32_194
  let v230 : BitVec 32 := Scalar.addi c0_i32_195 v229
  v230.toNat
def k0_dev11 (d0 : Dev nD) : Nat :=
  let c0_i32_208 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_173 : BitVec 32 := 2#32
  let v207 : BitVec 32 := Scalar.addi v2 c2_i32_173
  let c4_i32_174 : BitVec 32 := 4#32
  let c0_i32_175 : BitVec 32 := 0#32
  let v208 : BitVec 1 := Scalar.cmpi .eq c4_i32_174 c0_i32_175
  let c1_i32_176 : BitVec 32 := 1#32
  let v209 : BitVec 32 := Scalar.select v208 c1_i32_176 c4_i32_174
  let v210 : BitVec 32 := Scalar.remsi v207 v209
  let c0_i32_178 : BitVec 32 := 0#32
  let v212 : BitVec 1 := Scalar.cmpi .slt v210 c0_i32_178
  let c0_i32_179 : BitVec 32 := 0#32
  let v213 : BitVec 1 := Scalar.cmpi .slt v209 c0_i32_179
  let v214 : BitVec 1 := Scalar.xori v212 v213
  let c0_i32_177 : BitVec 32 := 0#32
  let v211 : BitVec 1 := Scalar.cmpi .ne v210 c0_i32_177
  let v215 : BitVec 1 := Scalar.andi v214 v211
  let v216 : BitVec 32 := Scalar.addi v210 v209
  let v217 : BitVec 32 := Scalar.select v215 v216 v210
  let c1_i32_207 : BitVec 32 := 1#32
  let v239 : BitVec 32 := Scalar.muli v217 c1_i32_207
  let v240 : BitVec 32 := Scalar.addi c0_i32_208 v239
  v240.toNat
def k0_dev12 (d0 : Dev nD) : Nat :=
  let c0_i32_221 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_180 : BitVec 32 := 3#32
  let v218 : BitVec 32 := Scalar.addi v2 c3_i32_180
  let c4_i32_181 : BitVec 32 := 4#32
  let c0_i32_182 : BitVec 32 := 0#32
  let v219 : BitVec 1 := Scalar.cmpi .eq c4_i32_181 c0_i32_182
  let c1_i32_183 : BitVec 32 := 1#32
  let v220 : BitVec 32 := Scalar.select v219 c1_i32_183 c4_i32_181
  let v221 : BitVec 32 := Scalar.remsi v218 v220
  let c0_i32_185 : BitVec 32 := 0#32
  let v223 : BitVec 1 := Scalar.cmpi .slt v221 c0_i32_185
  let c0_i32_186 : BitVec 32 := 0#32
  let v224 : BitVec 1 := Scalar.cmpi .slt v220 c0_i32_186
  let v225 : BitVec 1 := Scalar.xori v223 v224
  let c0_i32_184 : BitVec 32 := 0#32
  let v222 : BitVec 1 := Scalar.cmpi .ne v221 c0_i32_184
  let v226 : BitVec 1 := Scalar.andi v225 v222
  let v227 : BitVec 32 := Scalar.addi v221 v220
  let v228 : BitVec 32 := Scalar.select v226 v227 v221
  let c1_i32_220 : BitVec 32 := 1#32
  let v249 : BitVec 32 := Scalar.muli v228 c1_i32_220
  let v250 : BitVec 32 := Scalar.addi c0_i32_221 v249
  v250.toNat
def k0_dev13 (d0 : Dev nD) : Nat :=
  let c0_i32_261 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_232 : BitVec 32 := 1#32
  let v268 : BitVec 32 := Scalar.addi v2 c1_i32_232
  let c4_i32_233 : BitVec 32 := 4#32
  let c0_i32_234 : BitVec 32 := 0#32
  let v269 : BitVec 1 := Scalar.cmpi .eq c4_i32_233 c0_i32_234
  let c1_i32_235 : BitVec 32 := 1#32
  let v270 : BitVec 32 := Scalar.select v269 c1_i32_235 c4_i32_233
  let v271 : BitVec 32 := Scalar.remsi v268 v270
  let c0_i32_237 : BitVec 32 := 0#32
  let v273 : BitVec 1 := Scalar.cmpi .slt v271 c0_i32_237
  let c0_i32_238 : BitVec 32 := 0#32
  let v274 : BitVec 1 := Scalar.cmpi .slt v270 c0_i32_238
  let v275 : BitVec 1 := Scalar.xori v273 v274
  let c0_i32_236 : BitVec 32 := 0#32
  let v272 : BitVec 1 := Scalar.cmpi .ne v271 c0_i32_236
  let v276 : BitVec 1 := Scalar.andi v275 v272
  let v277 : BitVec 32 := Scalar.addi v271 v270
  let v278 : BitVec 32 := Scalar.select v276 v277 v271
  let c1_i32_260 : BitVec 32 := 1#32
  let v301 : BitVec 32 := Scalar.muli v278 c1_i32_260
  let v302 : BitVec 32 := Scalar.addi c0_i32_261 v301
  v302.toNat
def k0_dev14 (d0 : Dev nD) : Nat :=
  let c0_i32_274 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_239 : BitVec 32 := 2#32
  let v279 : BitVec 32 := Scalar.addi v2 c2_i32_239
  let c4_i32_240 : BitVec 32 := 4#32
  let c0_i32_241 : BitVec 32 := 0#32
  let v280 : BitVec 1 := Scalar.cmpi .eq c4_i32_240 c0_i32_241
  let c1_i32_242 : BitVec 32 := 1#32
  let v281 : BitVec 32 := Scalar.select v280 c1_i32_242 c4_i32_240
  let v282 : BitVec 32 := Scalar.remsi v279 v281
  let c0_i32_244 : BitVec 32 := 0#32
  let v284 : BitVec 1 := Scalar.cmpi .slt v282 c0_i32_244
  let c0_i32_245 : BitVec 32 := 0#32
  let v285 : BitVec 1 := Scalar.cmpi .slt v281 c0_i32_245
  let v286 : BitVec 1 := Scalar.xori v284 v285
  let c0_i32_243 : BitVec 32 := 0#32
  let v283 : BitVec 1 := Scalar.cmpi .ne v282 c0_i32_243
  let v287 : BitVec 1 := Scalar.andi v286 v283
  let v288 : BitVec 32 := Scalar.addi v282 v281
  let v289 : BitVec 32 := Scalar.select v287 v288 v282
  let c1_i32_273 : BitVec 32 := 1#32
  let v311 : BitVec 32 := Scalar.muli v289 c1_i32_273
  let v312 : BitVec 32 := Scalar.addi c0_i32_274 v311
  v312.toNat
def k0_dev15 (d0 : Dev nD) : Nat :=
  let c0_i32_287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_246 : BitVec 32 := 3#32
  let v290 : BitVec 32 := Scalar.addi v2 c3_i32_246
  let c4_i32_247 : BitVec 32 := 4#32
  let c0_i32_248 : BitVec 32 := 0#32
  let v291 : BitVec 1 := Scalar.cmpi .eq c4_i32_247 c0_i32_248
  let c1_i32_249 : BitVec 32 := 1#32
  let v292 : BitVec 32 := Scalar.select v291 c1_i32_249 c4_i32_247
  let v293 : BitVec 32 := Scalar.remsi v290 v292
  let c0_i32_251 : BitVec 32 := 0#32
  let v295 : BitVec 1 := Scalar.cmpi .slt v293 c0_i32_251
  let c0_i32_252 : BitVec 32 := 0#32
  let v296 : BitVec 1 := Scalar.cmpi .slt v292 c0_i32_252
  let v297 : BitVec 1 := Scalar.xori v295 v296
  let c0_i32_250 : BitVec 32 := 0#32
  let v294 : BitVec 1 := Scalar.cmpi .ne v293 c0_i32_250
  let v298 : BitVec 1 := Scalar.andi v297 v294
  let v299 : BitVec 32 := Scalar.addi v293 v292
  let v300 : BitVec 32 := Scalar.select v298 v299 v293
  let c1_i32_286 : BitVec 32 := 1#32
  let v321 : BitVec 32 := Scalar.muli v300 c1_i32_286
  let v322 : BitVec 32 := Scalar.addi c0_i32_287 v321
  v322.toNat
abbrev stage0_0 : Fin 1 → Memref sig .tc .vmem S4x1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S4x1024x1024 : Shape := ⟨3, ![4, 1024, 1024]⟩
abbrev S4x128 : Shape := ⟨2, ![4, 128]⟩
abbrev S128x1024 : Shape := ⟨2, ![128, 1024]⟩
abbrev S_ : Shape := ⟨0, ![]⟩
abbrev S4x1024 : Shape := ⟨2, ![4, 1024]⟩
abbrev S4x1024x1 : Shape := ⟨3, ![4, 1024, 1]⟩
abbrev S4x1x1024 : Shape := ⟨3, ![4, 1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x128, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S4x1024, .f32⟩
  | .hbm, ⟨6, _⟩ => ⟨S4x1024x1, .f32⟩
  | .hbm, ⟨7, _⟩ => ⟨S_, .f32⟩
  | .hbm, ⟨8, _⟩ => ⟨S4x1024x1, .f32⟩
  | .hbm, ⟨9, _⟩ => ⟨S4x1024x1, .f32⟩
  | .hbm, ⟨10, _⟩ => ⟨S_, .i32⟩
  | .hbm, ⟨11, _⟩ => ⟨S_, .f32⟩
  | .hbm, ⟨12, _⟩ => ⟨S4x1024, .f32⟩
  | .hbm, ⟨13, _⟩ => ⟨S4x1024x1, .f32⟩
  | .hbm, ⟨14, _⟩ => ⟨S_, .f32⟩
  | .hbm, ⟨15, _⟩ => ⟨S4x1024x1, .f32⟩
  | .hbm, ⟨16, _⟩ => ⟨S4x1024x1, .f32⟩
  | .hbm, ⟨17, _⟩ => ⟨S4x1024x1024, .f32⟩
  | .hbm, ⟨18, _⟩ => ⟨S4x1024x1024, .f32⟩
  | .hbm, ⟨19, _⟩ => ⟨S4x1024x1024, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x1024, .f32⟩
  | .hbm, ⟨25, _⟩ => ⟨S4x1024x1, .f32⟩
  | .hbm, ⟨26, _⟩ => ⟨S4x1024x1, .f32⟩
  | .hbm, ⟨27, _⟩ => ⟨S4x1024x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x1024x1, .f32⟩
  | .hbm, ⟨33, _⟩ => ⟨S4x1024x1, .f32⟩
  | .hbm, ⟨34, _⟩ => ⟨S4x1024x1024, .f32⟩
  | .hbm, ⟨35, _⟩ => ⟨S4x1024x1024, .f32⟩
  | .hbm, ⟨36, _⟩ => ⟨S_, .f32⟩
  | .hbm, ⟨37, _⟩ => ⟨S4x1024x1, .f32⟩
  | .hbm, ⟨38, _⟩ => ⟨S4x1024x1, .f32⟩
  | .hbm, ⟨39, _⟩ => ⟨S4x1024x1, .f32⟩
  | .hbm, ⟨40, _⟩ => ⟨S4x1024x1024, .f32⟩
  | .hbm, ⟨41, _⟩ => ⟨S4x1024x1024, .f32⟩
  | .hbm, ⟨42, _⟩ => ⟨S4x1024, .f32⟩
  | .hbm, ⟨43, _⟩ => ⟨S4x1024, .f32⟩
  | .hbm, ⟨44, _⟩ => ⟨S4x1x1024, .f32⟩
  | .hbm, ⟨45, _⟩ => ⟨S_, .f32⟩
  | .hbm, ⟨46, _⟩ => ⟨S4x1x1024, .f32⟩
  | .hbm, ⟨47, _⟩ => ⟨S4x1x1024, .f32⟩
  | .hbm, ⟨48, _⟩ => ⟨S4x1024x1024, .f32⟩
  | .hbm, ⟨49, _⟩ => ⟨S4x1024x1024, .f32⟩
  | .hbm, ⟨50, _⟩ => ⟨S4x1x1024, .f32⟩
  | .hbm, ⟨51, _⟩ => ⟨S4x1024x1024, .f32⟩
  | .hbm, ⟨52, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]
-- ==== Proof.Protocol.lean ====
/-
  The exchange of the kernel, as a schedule of the rounds library.

  Four devices each hold a quarter of the feature axis.  Each device cuts the sequence axis in four chunks; per chunk
  it computes the partial sums of its features and of their squares (eight rows of 256) and sends them to the three
  other devices, which add the partial sums they receive to their own.  Transfer `j` of chunk `ch` goes from device
  `c` to `peer c j` and lands in slot `(ch, j)` of that device's landing buffer; it is counted on send semaphore
  `(ch, j)` of `c` and on receive semaphore `(ch, j)` of `peer c j`.  Before any transfer each device signals the
  barrier semaphore of the three others and waits for three signals on its own.

  - A barrier cell has three duties of one unit.  Duty `j` of device `c` is paid by `peer c j`, which hands `c` its
    landing slots `(ch, j)` for every chunk `ch`: the slots `c` writes by its transfers `j`.
  - A send cell has one duty, paid when the transfer has read its source: the share of the slot of partial sums that
    was lent to the transfer.
  - A receive cell has one duty, paid when the transfer has landed: the landing slot holding the partial sums of the
    device that sent them.

  Everything is stated for any interpretation of the floats.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.VecWindow
public import Idealize.ShloMosaic.Lib.Ring
public import Idealize.ShloMosaic.Lib.Tactic

@[expose] public section

noncomputable section

namespace Cert.KernelProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The exchange's copy of the rounds algebra: duties are named by `Fin 3`. -/
abbrev UX : Type := URounds (GSem nD τ sig) (Fin 3)
/-- The pipeline's copy beside it. -/
abbrev UU : Type := UR sig nD τ × UX

local notation "𝕄" => MT nD τ sig Unit (Elt F) ℕ UU ℕ

/-- Where the pipeline's copy sits in the global algebra. -/
abbrev EP : Emb (UR sig nD τ) (MT nD τ sig Unit (Elt F) ℕ UU ℕ) := embL
/-- Where the exchange's copy sits in it. -/
abbrev EX : Emb UX (MT nD τ sig Unit (Elt F) ℕ UU ℕ) := embR

variable (m : (ℓ : Loc nD τ sig) → Buf (Elt F) ℓ) (ρ : Dev nD → PrngReg)

/-- The memory at launch: contents `m`, every counter zero, generator registers `ρ`. -/
def s₀ : MemSt nD τ sig (Elt F) := ⟨m, fun _ => 0, ρ⟩

/-! ## Who talks to whom -/

/-- The device `j + 1` places after `c`. -/
def peer (c : Dev nD) (j : Fin 3) : Dev nD := ⟨(c.val + (j.val + 1)) % 4, Nat.mod_lt _ (by decide)⟩

theorem peer_peer (c : Dev nD) (j : Fin 3) : peer (peer c j) j.rev = c := by revert c j; decide
theorem peer_peer' (c : Dev nD) (j : Fin 3) : peer (peer c j.rev) j = c := by revert c j; decide

/-- Going `j + 1` places on, as a permutation of the devices. -/
def peerEquiv (j : Fin 3) : Dev nD ≃ Dev nD := ⟨fun c => peer c j, fun c => peer c j.rev, fun c => peer_peer c j, fun c => peer_peer' c j⟩

/-! ## The slots and the semaphores -/

theorem inbStat (ch : Fin 4) : ∀ a, (![ch.val, 0, 0] : Fin 3 → ℕ) a + S1x8x256.size a ≤ S4x8x256.size a := by revert ch; decide
theorem inbComm (ch : Fin 4) (j : Fin 3) : ∀ a, (![ch.val, j.val, 0, 0] : Fin 4 → ℕ) a + S1x1x8x256.size a ≤ S4x3x8x256.size a := by
  revert ch j; decide
theorem inbSem (ch : Fin 4) (j : Fin 3) : ∀ a, (![ch.val, j.val] : Fin 2 → ℕ) a + S1x1.size a ≤ S4x3.size a := by revert ch j; decide
theorem inbChunk (ch : Fin 4) : ∀ a, (![0, 256 * ch.val, 0] : Fin 3 → ℕ) a + S4x256x256.size a ≤ S4x1024x256.size a := by revert ch; decide

/-- Chunk `ch` of the buffer of partial sums. -/
abbrev statRect (ch : Fin 4) : Rect S4x8x256 := Rect.unit (s := S4x8x256) ![ch.val, 0, 0] S1x8x256.size (inbStat ch)
/-- Slot `(ch, j)` of the landing buffer. -/
abbrev commRect (ch : Fin 4) (j : Fin 3) : Rect S4x3x8x256 := Rect.unit (s := S4x3x8x256) ![ch.val, j.val, 0, 0] S1x1x8x256.size (inbComm ch j)
/-- Chunk `ch` of the sequence axis of a block. -/
abbrev chunkRect (ch : Fin 4) : Rect S4x1024x256 := Rect.unit (s := S4x1024x256) ![0, 256 * ch.val, 0] S4x256x256.size (inbChunk ch)

abbrev xM : Memref sig .tc .vmem S4x1024x256 .f32 := Memref.whole cc0_stg0_0
abbrev tM : Memref sig .tc .vmem S4x128 .f32 := Memref.whole cc0_stg1_0
abbrev wM : Memref sig .tc .vmem S128x256 .f32 := Memref.whole cc0_stg2_0
abbrev uM : Memref sig .tc .vmem S128x256 .f32 := Memref.whole cc0_stg3_0
abbrev oM : Memref sig .tc .vmem S4x1024x256 .f32 := Memref.whole cc0_stg4_0
abbrev statM : Memref sig .tc .vmem S4x8x256 .f32 := Memref.whole cc0_scratch0
abbrev commM : Memref sig .tc .vmem S4x3x8x256 .f32 := Memref.whole cc0_scratch1

/-- Chunk `ch` of the partial sums as the transfers name it. -/
abbrev statS (ch : Fin 4) : Memref sig .tc .vmem S8x256 .f32 := (statM.slice (statRect ch) (fun _ => rfl)).squeeze S8x256 squeezes_S1x8x256_S8x256
/-- Landing slot `(ch, j)` as the transfers name it. -/
abbrev commS (ch : Fin 4) (j : Fin 3) : Memref sig .tc .vmem S8x256 .f32 :=
  (commM.slice (commRect ch j) (fun _ => rfl)).squeeze S8x256 squeezes_S1x1x8x256_S8x256

/-- The barrier semaphore, the send and the receive semaphores. -/
abbrev barS : Sem sig := (SemArray.scalar (sig.barrier 0 rfl) : Sems sig S_).sem
@[inherit_doc barS] abbrev sendS (ch : Fin 4) (j : Fin 3) : DmaSem sig :=
  ((cc0_scratch2.slice (Rect.unit (s := S4x3) ![ch.val, j.val] S1x1.size (inbSem ch j))).squeeze S_ squeezes_S1x1_S_).sem
@[inherit_doc barS] abbrev recvS (ch : Fin 4) (j : Fin 3) : DmaSem sig :=
  ((cc0_scratch3.slice (Rect.unit (s := S4x3) ![ch.val, j.val] S1x1.size (inbSem ch j))).squeeze S_ squeezes_S1x1_S_).sem

abbrev barCell (c : Dev nD) : GSem nD τ sig := ((c : Thread nD τ), .reg barS)
abbrev sendCell (c : Dev nD) (ch : Fin 4) (j : Fin 3) : GSem nD τ sig := ((c : Thread nD τ), .dma (sendS ch j))
abbrev recvCell (c : Dev nD) (ch : Fin 4) (j : Fin 3) : GSem nD τ sig := ((c : Thread nD τ), .dma (recvS ch j))

/-- The transfers of a device: chunk and place. -/
abbrev X : Type := Fin 4 × Fin 3

/-- The kernel's own semaphores: of each transfer, the send semaphore (`false`) and the receive semaphore (`true`). -/
abbrev osem : Bool × X → SemLoc sig
  | (false, x) => .dma (sendS x.1 x.2)
  | (true, x) => .dma (recvS x.1 x.2)

/-- Every semaphore of the exchange: the barrier's (`none`) and the kernel's own. -/
abbrev csem : Option (Bool × X) → SemLoc sig
  | none => .reg barS
  | some y => osem y

/-- Every cell of the exchange. -/
abbrev kcell (p : Dev nD × Option (Bool × X)) : GSem nD τ sig := ((p.1 : Thread nD τ), csem p.2)

theorem csem_injective : Function.Injective csem := by decide
theorem kcell_injective : Function.Injective kcell := fun _ _ h =>
  Prod.ext (congrArg (fun g : GSem nD τ sig => g.1.1) h) (csem_injective (congrArg Prod.snd h))

/-- The semaphore's name in the exchange, if it has one. -/
def decode (sm : SemLoc sig) : Option (Bool × X) :=
  (Finset.univ.filter fun y : Bool × X => osem y = sm).toList.head?

theorem decode_osem (y : Bool × X) : decode (osem y) = some y := by
  unfold decode
  rw [show (Finset.univ.filter fun y' : Bool × X => osem y' = osem y) = {y} from ?_, Finset.toList_singleton]; rfl
  ext y'
  simp only [Finset.mem_filter, Finset.mem_univ, true_and, Finset.mem_singleton]
  exact ⟨fun h => Option.some.inj (csem_injective (a₁ := some y') (a₂ := some y) h), fun h => h ▸ rfl⟩

theorem decode_none {sm : SemLoc sig} (h : ∀ y, osem y ≠ sm) : decode sm = none := by
  unfold decode
  rw [Finset.filter_false_of_mem fun y _ => h y, Finset.toList_empty]; rfl

theorem decode_send (ch : Fin 4) (j : Fin 3) : decode (.dma (sendS ch j)) = some (false, (ch, j)) := decode_osem (false, (ch, j))
theorem decode_recv (ch : Fin 4) (j : Fin 3) : decode (.dma (recvS ch j)) = some (true, (ch, j)) := decode_osem (true, (ch, j))

/-- What one transfer credits: the bytes of one block of partial sums. -/
abbrev N : ℕ := (statS 0).view.dmaCredit
theorem N_pos : 0 < N := View.dmaCredit_pos _ (by decide)

/-! ## Contents -/

/-- Device `c`'s block of the input, as the pipeline stages it. -/
def xstg (c : Dev nD) : (cc0_stg0_0 : Ref sig .tc).ty.Contents (Elt F) :=
  (win0_0.blk (0 : Fin 1)).view.read (Elt F) ((s₀ m ρ).mem ((c : Thread nD τ).loc main_arg0))

/-- Chunk `ch` of it. -/
def xchunk (c : Dev nD) (ch : Fin 4) : Vec F S4x256x256 .f32 := xM.view.readAt (Elt F) (chunkRect ch).toLoadRect (xstg m ρ c)

/-- The partial sums of chunk `ch` on device `c`. -/
def part (c : Dev nD) (ch : Fin 4) : FVec F S8x256 .f32 := k0_pay2 (xchunk m ρ c ch)

/-- The partial sums as stored, one chunk. -/
def part3 (c : Dev nD) (ch : Fin 4) : FVec F S1x8x256 .f32 := shapeCast S1x8x256 (part m ρ c ch) shapeCasts_S8x256_S1x8x256

/-- The partial sums as they land, one slot. -/
def part4 (c : Dev nD) (ch : Fin 4) : FVec F S1x1x8x256 .f32 := shapeCast S1x1x8x256 (part m ρ c ch) rfl

/-- The buffer of partial sums of device `c`, all chunks. -/
def statBuf (c : Dev nD) : (cc0_scratch0 : Ref sig .tc).ty.Contents (Elt F) :=
  fun i : S4x8x256.Idx => part3 m ρ c (i 0) (fun | 0 => (0 : Fin 1) | 1 => (i 1 : Fin 8) | 2 => (i 2 : Fin 256))

/-- The landing buffer of device `c`, all slots: slot `(ch, j)` holds the partial sums of the device that
    sends there. -/
def commBuf (c : Dev nD) : (cc0_scratch1 : Ref sig .tc).ty.Contents (Elt F) :=
  fun i : S4x3x8x256.Idx => part4 m ρ (peer c (Fin.rev (i 1 : Fin 3))) (i 0)
    (fun | 0 => (0 : Fin 1) | 1 => (0 : Fin 1) | 2 => (i 2 : Fin 8) | 3 => (i 3 : Fin 256))

/-- Device `c` holds chunk `ch` of its partial sums at share `q` and contents `f`. -/
def statPts (c : Dev nD) (ch : Fin 4) (q : PosShare TreeShare) (f : (cc0_scratch0 : Ref sig .tc).ty.Contents (Elt F)) : sProp 𝕄 :=
  (statS ch).view.loc (c : Thread nD τ) ↦[(statS ch).view.set]{q} f
/-- Landing slot `(ch, j)` of device `c` is held at contents `f`. -/
def commPts (c : Dev nD) (ch : Fin 4) (j : Fin 3) (f : (cc0_scratch1 : Ref sig .tc).ty.Contents (Elt F)) : sProp 𝕄 :=
  (commS ch j).view.loc (c : Thread nD τ) ↦[(commS ch j).view.set]{fullShare} f

omit [FloatOps F] in
instance statPts_storable (c : Dev nD) (ch) (q) (f) : BI.Storable (upEmb : UEmb _ 𝕄) (statPts (F := F) c ch q f) := by
  unfold statPts; infer_instance
omit [FloatOps F] in
instance commPts_storable (c : Dev nD) (ch) (j) (f) : BI.Storable (upEmb : UEmb _ 𝕄) (commPts (F := F) c ch j f) := by
  unfold commPts; infer_instance

/-- The share of a chunk of partial sums lent to transfer `j`. -/
def lent : Fin 3 → PosShare TreeShare
  | 0 => fullShare.left
  | 1 => fullShare.right.left
  | 2 => fullShare.right.right

omit [FloatOps F] in
/-- A chunk held whole is the three shares lent to its transfers. -/
theorem statPts_lend (c : Dev nD) (ch : Fin 4) (f : (cc0_scratch0 : Ref sig .tc).ty.Contents (Elt F)) :
    (statPts c ch fullShare f : sProp 𝕄) = iprop(statPts c ch (lent 0) f ∗ statPts c ch (lent 1) f ∗ statPts c ch (lent 2) f) := by
  have h (q : PosShare TreeShare) : (statPts c ch q f : sProp 𝕄) = iprop(statPts c ch q.left f ∗ statPts c ch q.right f) :=
    BI.Entails.antisymm (pointsTo_share (PosShare.mem_left_op_right q)).1 (pointsTo_share (PosShare.mem_left_op_right q)).2
  exact (h fullShare).trans (congrArg (fun P => iprop(statPts c ch (lent 0) f ∗ P)) (h fullShare.right))

/-! ## The schedule -/

/-- What `peer c j` hands device `c` with its signal: its landing slots `j`. -/
def barPay (c : Dev nD) (j : Fin 3) : sProp 𝕄 := bigSep Finset.univ fun ch : Fin 4 => iprop(∃ f, commPts (peer c j) ch j f)

/-- What a transfer's cell hands its device. -/
def xferPay (c : Dev nD) : Option (Bool × X) → sProp 𝕄
  | some (true, x) => commPts c x.1 x.2 (commBuf m ρ c)
  | some (false, x) => statPts c x.1 (lent x.2) (statBuf m ρ c)
  | none => iprop(emp)

omit [FloatOps F] in
instance barPay_storable (c : Dev nD) (j : Fin 3) : BI.Storable (upEmb : UEmb _ 𝕄) (barPay (F := F) c j) := by
  unfold barPay; infer_instance
instance xferPay_storable (c : Dev nD) (o : Option (Bool × X)) : BI.Storable (upEmb : UEmb _ 𝕄) (xferPay (F := F) m ρ c o) := by
  rcases o with - | ⟨_ | _, x⟩ <;> (unfold xferPay; infer_instance)

/-- One round: a barrier cell has three duties of a unit each, every other cell of the exchange one duty of a block's credit. -/
def exRd : Rounds.Schedule (GSem nD τ sig) (Fin 3) 𝕄 where
  duties g r := if r = 0 ∧ g.1.2 = .tc then (if g.2 = .reg barS then Finset.univ else if (decode g.2).isSome then {0} else ∅) else ∅
  unitless _ := False
  amount g _ _ := if g.2 = .reg barS then 1 else N
  payload g _ d := if g.2 = .reg barS then barPay g.1.1 d else xferPay m ρ g.1.1 (decode g.2)
  amount_pos g _ _ _ := by
    by_cases h : g.2 = .reg barS
    · rw [if_pos h]; exact Nat.one_pos
    · rw [if_neg h]; exact N_pos

instance exRd_payload_storable (g : GSem nD τ sig) (r : ℕ) (d : Fin 3) : BI.Storable (upEmb : UEmb _ 𝕄) ((exRd (F := F) m ρ).payload g r d) := by
  show BI.Storable upEmb (if g.2 = .reg barS then barPay g.1.1 d else xferPay m ρ g.1.1 (decode g.2))
  split <;> infer_instance

section Sched
variable (c : Dev nD) (ch : Fin 4) (j : Fin 3)

theorem dma_ne_bar (q : DmaSem sig) : (SemLoc.dma q : SemLoc sig) ≠ .reg barS := fun h => by cases h

theorem duties_bar : (exRd (F := F) m ρ).duties (barCell c) 0 = Finset.univ := by
  dsimp only [exRd]; rw [if_pos ⟨rfl, rfl⟩, if_pos rfl]
theorem duties_send : (exRd (F := F) m ρ).duties (sendCell c ch j) 0 = {0} := by
  dsimp only [exRd]; rw [if_pos ⟨rfl, rfl⟩, if_neg (dma_ne_bar _), decode_send]; rfl
theorem duties_recv : (exRd (F := F) m ρ).duties (recvCell c ch j) 0 = {0} := by
  dsimp only [exRd]; rw [if_pos ⟨rfl, rfl⟩, if_neg (dma_ne_bar _), decode_recv]; rfl
theorem duties_later (g : GSem nD τ sig) : ∀ r, 1 ≤ r → (exRd (F := F) m ρ).duties g r = ∅ :=
  fun r hr => by dsimp only [exRd]; rw [if_neg fun h => by omega]

theorem amount_bar (d : Fin 3) : (exRd (F := F) m ρ).amount (barCell c) 0 d = 1 := by dsimp only [exRd]; exact if_pos rfl
theorem amount_send (d : Fin 3) : (exRd (F := F) m ρ).amount (sendCell c ch j) 0 d = N := by dsimp only [exRd]; exact if_neg (dma_ne_bar _)
theorem amount_recv (d : Fin 3) : (exRd (F := F) m ρ).amount (recvCell c ch j) 0 d = N := by dsimp only [exRd]; exact if_neg (dma_ne_bar _)

theorem expect_bar : (exRd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (exRd (F := F) m ρ).expect (sendCell c ch j) 0 = N := by
  unfold Schedule.expect Schedule.amountOf; rw [duties_send, Finset.sum_singleton, amount_send]
theorem expect_recv : (exRd (F := F) m ρ).expect (recvCell c ch j) 0 = N := by
  unfold Schedule.expect Schedule.amountOf; rw [duties_recv, Finset.sum_singleton, amount_recv]

theorem payload_bar (d : Fin 3) : (exRd (F := F) m ρ).payload (barCell c) 0 d = barPay c d := by dsimp only [exRd]; rw [if_pos rfl]
theorem payload_send (d : Fin 3) : (exRd (F := F) m ρ).payload (sendCell c ch j) 0 d = statPts c ch (lent j) (statBuf m ρ c) := by
  dsimp only [exRd]; rw [if_neg (dma_ne_bar _), decode_send]; rfl
theorem payload_recv (d : Fin 3) : (exRd (F := F) m ρ).payload (recvCell c ch j) 0 d = commPts c ch j (commBuf m ρ c) := by
  dsimp only [exRd]; rw [if_neg (dma_ne_bar _), decode_recv]; rfl

/-- All a device's barrier wait brings: the landing slots of every other device that it will write. -/
theorem rest_bar : bigSep ((exRd (F := F) m ρ).duties (barCell c) 0 \ ∅) (fun d => (exRd (F := F) m ρ).payload (barCell c) 0 d)
    = bigSep Finset.univ fun j : Fin 3 => barPay c j := by
  rw [Finset.sdiff_empty, duties_bar]; exact bigSep_congr fun d _ => payload_bar m ρ c d
theorem rest_send : bigSep ((exRd (F := F) m ρ).duties (sendCell c ch j) 0 \ ∅) (fun d => (exRd (F := F) m ρ).payload (sendCell c ch j) 0 d)
    = statPts c ch (lent j) (statBuf m ρ c) := by
  rw [Finset.sdiff_empty, duties_send, bigSep_singleton, payload_send]
theorem rest_recv : bigSep ((exRd (F := F) m ρ).duties (recvCell c ch j) 0 \ ∅) (fun d => (exRd (F := F) m ρ).payload (recvCell c ch j) 0 d)
    = commPts c ch j (commBuf m ρ c) := by
  rw [Finset.sdiff_empty, duties_recv, bigSep_singleton, payload_recv]

end Sched

/-! ## What a device owes; the levels -/

/-- What device `c` owes for the transfers of a list: their receive credits, the first transfer's the last summand. -/
def due (c : Dev nD) : List X → CellTallies nD τ sig Unit
  | [] => 0
  | x :: l => due c l + tallyAt (recvCell (peer c x.2) x.1 x.2) () N

/-- The transfers of a device in the order it starts them. -/
def allX : List X := [(0, 0), (0, 1), (0, 2), (1, 0), (1, 1), (1, 2), (2, 0), (2, 1), (2, 2), (3, 0), (3, 1), (3, 2)]

/-- What device `c` owes at launch: its transfers and a unit to each other device's barrier cell. -/
def O₂ (c : Dev nD) : CellTallies nD τ sig Unit := due c allX + tallyAt (barCell (peer c 2)) () 1
@[inherit_doc O₂] def O₁ (c : Dev nD) : CellTallies nD τ sig Unit := O₂ c + tallyAt (barCell (peer c 1)) () 1
@[inherit_doc O₂] def O₀ (c : Dev nD) : CellTallies nD τ sig Unit := O₁ c + tallyAt (barCell (peer c 0)) () 1

/-- One kind of unit at every TensorCore cell. -/
def L (g : GSem nD τ sig) : Finset Unit := if g.1.2 = .tc then {()} else ∅
/-- Barrier cells at 1, receive cells at 2, every other cell at 0. -/
def lv (g : GSem nD τ sig) (_ : Unit) : ℕ := if g.2 = .reg barS then 1 else if (decode g.2).any (·.1) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c : Dev nD) (ch : Fin 4) (j : Fin 3) : lv (recvCell c ch j) () = 2 := by
  dsimp only [lv]; rw [if_neg (dma_ne_bar _), decode_recv]; rfl

theorem tally_pos {g g' : GSem nD τ sig} {u : Unit} {k : ℕ} (h : 0 < (tallyAt g () k : CellTallies nD τ sig Unit) g' u) : g' = g := by
  rw [tallyAt_apply] at h
  by_contra hn
  rw [if_neg fun h' => hn h'.1] at h
  exact Nat.lt_irrefl 0 h

theorem due_pos {c : Dev nD} {l : List X} {g : GSem nD τ sig} {u : Unit} (h : 0 < due c l g u) : ∃ d ch j, g = recvCell d ch j := by
  induction l with
  | nil => exact absurd h (Nat.lt_irrefl 0)
  | cons x l ih =>
    unfold due at h
    rw [Pi.add_apply, Finsupp.add_apply] at h
    rcases Nat.add_pos_iff_pos_or_pos.mp h with h | h
    · exact ih h
    · exact ⟨_, _, _, tally_pos h⟩

theorem O₀_pos {c : Dev nD} {g : GSem nD τ sig} {u : Unit} (h : 0 < O₀ c g u) : (∃ d ch j, g = recvCell d ch j) ∨ ∃ d, g = barCell d := by
  unfold O₀ O₁ O₂ at h
  simp only [Pi.add_apply, Finsupp.add_apply] at h
  rcases Nat.add_pos_iff_pos_or_pos.mp h with h | h
  · rcases Nat.add_pos_iff_pos_or_pos.mp h with h | h
    · rcases Nat.add_pos_iff_pos_or_pos.mp h with h | h
      · exact .inl (due_pos h)
      · exact .inr ⟨_, tally_pos h⟩
    · exact .inr ⟨_, tally_pos h⟩
  · exact .inr ⟨_, tally_pos h⟩

omit [FloatOps F] in
/-- A staging wait is below everything a device can owe. -/
theorem mayWait_stage (c : Dev nD) (q : DmaSem sig) (hq : decode (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, ch, j, rfl⟩ | ⟨d, rfl⟩ <;> exact Finset.mem_singleton_self _)
      (fun p hp => by rw [Finset.mem_singleton.mp hp]; dsimp only [lv]; rw [if_neg (dma_ne_bar _), hq]; decide)
      (fun g u hg => by
        rcases O₀_pos hg with ⟨d, ch, j, rfl⟩ | ⟨d, rfl⟩
        · rw [lv_recv]; decide
        · rw [lv_bar]; decide)
  · rw [MayWait_zero]; iintro -; iempintro

omit [FloatOps F] in
/-- At its barrier wait a device owes receive credits only, above the barrier cell. -/
theorem mayWait_bar (c : Dev nD) (l : List X) : (levAts L lv : sProp 𝕄) ⊢ MayWait (c : Thread nD τ) (.reg barS) () (due c l) :=
  MayOwe.of_cut (L := L) (lev := lv) 1 (fun p hp => by rw [Finset.mem_singleton.mp hp, L_tc]; exact Finset.mem_singleton_self _)
    (fun g u hg => by obtain ⟨d, ch, j, rfl⟩ := due_pos hg; exact Finset.mem_singleton_self _)
    (fun p hp => by rw [Finset.mem_singleton.mp hp]; exact (lv_bar c).le)
    (fun g u hg => by obtain ⟨d, ch, j, rfl⟩ := due_pos hg; rw [lv_recv]; decide)

end Cert.KernelProof
-- ==== Proof.Program.lean ====
/-
  The kernel's body as one sequence of operations.

  The generated skeleton cuts the body in parts of equal length.  Here it is cut by what it does: signal, stage a chunk's
  partial sums, start a transfer, wait for a transfer, finish a chunk.  Each piece is written once, at any chunk, and takes
  the rest of the body as an argument; `body_eq` says the kernel's body is their composition.
-/
module

public import proofs.«01_k».proof.Proof.Protocol

@[expose] public section

noncomputable section

namespace Cert.KernelProof

open Cert.KernelIdeal Cert.KernelIdeal.Gen
open Idealize.ShloMosaic
open Idealize.ShloMosaic.TcCoe
open Idealize.SL.Sem

variable {F : FTy → Type} [FloatOps F]

/-- Programs of a TensorCore of the kernel. -/
abbrev PG (F : FTy → Type) : Type 1 := Prog (TpuEff nD τ sig (Elt F) Λ₀ .tc) PUnit

/-- Signal the barrier semaphore of device `n`. -/
def sigP (n : Dev nD) (k : PG F) : PG F := .op (.semSignal (n, .tc) barS (1#32).toInt) fun _ => k

/-- Wait for three units on the own barrier semaphore. -/
def barP (k : PG F) : PG F := .op (.semWait barS (3#32).toInt) fun _ => k

/-- Read a chunk of the input and store its partial sums. -/
def stageP (ch : Fin 4) (k : Vec F S4x256x256 .f32 → PG F) : PG F :=
  .op (.load xM (chunkRect ch).toLoadRect (View.loadsAt_vmem h_S4x256x256)) fun xv =>
  .op (.load statM (statRect ch).toLoadRect (View.loadsAt_vmem h_S1x8x256)) fun _ =>
  .op (.store statM (statRect ch) (k0_pay3 xv) Finset.univ (View.stores_vmem_bits_univ h_S1x8x256 rfl) (.inl rfl)) fun _ => k xv

/-- Start transfer `j` of a chunk, to device `n`. -/
def sendP (n : Dev nD) (ch : Fin 4) (j : Fin 3) (k : PG F) : PG F :=
  .op (.enqueueDma (statS ch) (.remote (Dev.tc n) (commS ch j) (.dma (sendS ch j))) (.dma (recvS ch j))
    ((View.wordExact_bits rfl).reshape _ _) ((View.wordExact_bits rfl).reshape _ _) ⟨⟨rfl, Or.inl rfl⟩, trivial⟩) fun _ => k

/-- Wait for the own transfer `j` of a chunk to have read, and for the peer's to have landed. -/
def waitP (ch : Fin 4) (j : Fin 3) (k : PG F) : PG F :=
  .op (.waitDma2 (sendS ch j) (commS ch j) (statS ch) ((View.wordExact_bits rfl).reshape _ _) ((View.wordExact_bits rfl).reshape _ _)) fun _ =>
  .op (.waitDma2 (recvS ch j) (statS ch) (commS ch j) ((View.wordExact_bits rfl).reshape _ _) ((View.wordExact_bits rfl).reshape _ _)) fun _ => k

/-- Read landing slot `(ch, j)`. -/
def landedP (ch : Fin 4) (j : Fin 3) (k : Vec F S1x1x8x256 .f32 → PG F) : PG F :=
  .op (.load commM (commRect ch j).toLoadRect (View.loadsAt_vmem h_S1x1x8x256)) k

/-- A chunk of the result, from the gain `g`, the shift `b`, the four devices' partial sums and the chunk of the input. -/
def outChunk (g b : FVec F S4x1x256 .f32) (p : FVec F S8x256 .f32) (p0 p1 p2 : Vec F S1x1x8x256 .f32) (xv : Vec F S4x256x256 .f32) :
    FVec F S4x256x256 .f32 :=
  k0_pay19 g b (k0_pay17 p p0 p1 p2) (k0_pay18 p p0 p1 p2) xv

/-- Read a chunk of the input again and store the chunk of the result. -/
def putP (ch : Fin 4) (g b : FVec F S4x1x256 .f32) (p : FVec F S8x256 .f32) (p0 p1 p2 : Vec F S1x1x8x256 .f32) (k : PG F) : PG F :=
  .op (.load xM (chunkRect ch).toLoadRect (View.loadsAt_vmem h_S4x256x256)) fun xv =>
  .op (.load oM (chunkRect ch).toLoadRect (View.loadsAt_vmem h_S4x256x256)) fun _ =>
  .op (.store oM (chunkRect ch) (outChunk g b p p0 p1 p2 xv) Finset.univ (View.stores_vmem_bits_univ h_S4x256x256 rfl) (.inl rfl)) fun _ => k

/-- Wait for a chunk's transfers, and finish it. -/
def finishP (ch : Fin 4) (g b : FVec F S4x1x256 .f32) (p : FVec F S8x256 .f32) (k : PG F) : PG F :=
  waitP ch 0 <| waitP ch 1 <| waitP ch 2 <| landedP ch 0 fun p0 => landedP ch 1 fun p1 => landedP ch 2 fun p2 => putP ch g b p p0 p1 p2 k

/-- Read the conditioning vectors and one weight matrix twice over: the gain, then the shift. -/
def paramsP (k : FVec F S4x1x256 .f32 → FVec F S4x1x256 .f32 → PG F) : PG F :=
  .op (.load tM (Rect.unit (s := S4x128) ![0, 0] S4x128.size inb_S4x128_S4x128_0_0).toLoadRect (View.loadsAt_vmem h_S4x128)) fun t1 =>
  .op (.load wM (Rect.unit (s := S128x256) ![0, 0] S128x256.size inb_S128x256_S128x256_0_0).toLoadRect (View.loadsAt_vmem h_S128x256)) fun w =>
  .op (.load tM (Rect.unit (s := S4x128) ![0, 0] S4x128.size inb_S4x128_S4x128_0_0).toLoadRect (View.loadsAt_vmem h_S4x128)) fun t2 =>
  .op (.load uM (Rect.unit (s := S128x256) ![0, 0] S128x256.size inb_S128x256_S128x256_0_0).toLoadRect (View.loadsAt_vmem h_S128x256)) fun u =>
  k (k0_pay10 t1 w) (k0_pay11 t2 u)

/-- The body on device `d`. -/
def prog (d : Dev nD) : PG F :=
  sigP ⟨k0_dev1 d, k0_dev1_lt d⟩ <| sigP ⟨k0_dev2 d, k0_dev2_lt d⟩ <| sigP ⟨k0_dev3 d, k0_dev3_lt d⟩ <|
  stageP 0 fun x0 => barP <|
  sendP ⟨k0_dev4 d, k0_dev4_lt d⟩ 0 0 <| sendP ⟨k0_dev5 d, k0_dev5_lt d⟩ 0 1 <| sendP ⟨k0_dev6 d, k0_dev6_lt d⟩ 0 2 <|
  stageP 1 fun x1 =>
  sendP ⟨k0_dev7 d, k0_dev7_lt d⟩ 1 0 <| sendP ⟨k0_dev8 d, k0_dev8_lt d⟩ 1 1 <| sendP ⟨k0_dev9 d, k0_dev9_lt d⟩ 1 2 <|
  stageP 2 fun x2 =>
  sendP ⟨k0_dev10 d, k0_dev10_lt d⟩ 2 0 <| sendP ⟨k0_dev11 d, k0_dev11_lt d⟩ 2 1 <| sendP ⟨k0_dev12 d, k0_dev12_lt d⟩ 2 2 <|
  stageP 3 fun x3 =>
  sendP ⟨k0_dev13 d, k0_dev13_lt d⟩ 3 0 <| sendP ⟨k0_dev14 d, k0_dev14_lt d⟩ 3 1 <| sendP ⟨k0_dev15 d, k0_dev15_lt d⟩ 3 2 <|
  paramsP fun g b =>
  finishP 0 g b (k0_pay2 x0) <| finishP 1 g b (k0_pay2 x1) <| finishP 2 g b (k0_pay2 x2) <| finishP 3 g b (k0_pay2 x3) <| .ret ⟨⟩

set_option maxRecDepth 65536 in
set_option maxHeartbeats 4000000 in
/-- The kernel's body reads which device it is on and runs `prog` there. -/
theorem body_eq : (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _) (Memref.whole cc0_scratch0) (Memref.isWhole_whole _)
      (Memref.whole cc0_scratch1) (Memref.isWhole_whole _) cc0_scratch2 cc0_scratch3 : PG F)
    = .op .deviceId fun d => prog d := by
  simp only [cc0_body_eq_skeleton, cc0_body_skel,
    k0_part1_eq_skeleton, k0_part1_skel, k0_part2_eq_skeleton, k0_part2_skel, k0_part3_eq_skeleton, k0_part3_skel,
    k0_part4_eq_skeleton, k0_part4_skel, k0_part5_eq_skeleton, k0_part5_skel, k0_part6_eq_skeleton, k0_part6_skel,
    k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel,
    k0_part13_eq_skeleton, k0_part13_skel, k0_part14_eq_skeleton, k0_part14_skel, k0_part15_eq_skeleton, k0_part15_skel,
    k0_part16_eq_skeleton, k0_part16_skel, k0_part17_eq_skeleton, k0_part17_skel, k0_part18_eq_skeleton, k0_part18_skel,
    k0_part19_eq_skeleton, k0_part19_skel, k0_part20_eq_skeleton, k0_part20_skel, k0_part21_eq_skeleton, k0_part21_skel,
    k0_part22_eq_skeleton, k0_part22_skel, k0_part23_eq_skeleton, k0_part23_skel,
    semSignalWord, semWaitWord, Prog.lift, Prog.bind_op, Prog.bind_ret, Prog.pure_eq_ret, Prog.bind_assoc]
  rfl

/-! ## The addresses of the signals and transfers -/

section Devs
variable (c : Dev nD)
theorem dev1_eq : (⟨k0_dev1 c, k0_dev1_lt c⟩ : Dev nD) = peer c 0 := by revert c; decide
theorem dev2_eq : (⟨k0_dev2 c, k0_dev2_lt c⟩ : Dev nD) = peer c 1 := by revert c; decide
theorem dev3_eq : (⟨k0_dev3 c, k0_dev3_lt c⟩ : Dev nD) = peer c 2 := by revert c; decide
theorem dev4_eq : (⟨k0_dev4 c, k0_dev4_lt c⟩ : Dev nD) = peer c 0 := by revert c; decide
theorem dev5_eq : (⟨k0_dev5 c, k0_dev5_lt c⟩ : Dev nD) = peer c 1 := by revert c; decide
theorem dev6_eq : (⟨k0_dev6 c, k0_dev6_lt c⟩ : Dev nD) = peer c 2 := by revert c; decide
theorem dev7_eq : (⟨k0_dev7 c, k0_dev7_lt c⟩ : Dev nD) = peer c 0 := by revert c; decide
theorem dev8_eq : (⟨k0_dev8 c, k0_dev8_lt c⟩ : Dev nD) = peer c 1 := by revert c; decide
theorem dev9_eq : (⟨k0_dev9 c, k0_dev9_lt c⟩ : Dev nD) = peer c 2 := by revert c; decide
theorem dev10_eq : (⟨k0_dev10 c, k0_dev10_lt c⟩ : Dev nD) = peer c 0 := by revert c; decide
theorem dev11_eq : (⟨k0_dev11 c, k0_dev11_lt c⟩ : Dev nD) = peer c 1 := by revert c; decide
theorem dev12_eq : (⟨k0_dev12 c, k0_dev12_lt c⟩ : Dev nD) = peer c 2 := by revert c; decide
theorem dev13_eq : (⟨k0_dev13 c, k0_dev13_lt c⟩ : Dev nD) = peer c 0 := by revert c; decide
theorem dev14_eq : (⟨k0_dev14 c, k0_dev14_lt c⟩ : Dev nD) = peer c 1 := by revert c; decide
theorem dev15_eq : (⟨k0_dev15 c, k0_dev15_lt c⟩ : Dev nD) = peer c 2 := by revert c; decide
end Devs

end Cert.KernelProof
-- ==== Proof.State.lean ====
/-
  What the buffers hold along the kernel's body, and the assertions its steps take and give.
-/
module

public import proofs.«01_k».proof.Proof.Program

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over chunks, places and other devices -/

theorem sep_fin3 {M : Type} [URA M] (Φ : Fin 3 → sProp M) : bigSep Finset.univ Φ = iprop(Φ 0 ∗ Φ 1 ∗ Φ 2) :=
  bigSep_univ_eq_bigSepL [0, 1, 2] (by decide) (by decide) Φ
theorem sep_fin4 {M : Type} [URA M] (Φ : Fin 4 → sProp M) : bigSep Finset.univ Φ = iprop(Φ 0 ∗ Φ 1 ∗ Φ 2 ∗ Φ 3) :=
  bigSep_univ_eq_bigSepL [0, 1, 2, 3] (by decide) (by decide) Φ

/-! ## The parameters and the result -/

/-- The conditioning vectors and the two weight blocks of device `c`, as the pipeline stages them. -/
def tstg (c : Dev nD) : (cc0_stg1_0 : Ref sig .tc).ty.Contents (Elt F) :=
  (win0_1.blk (0 : Fin 1)).view.read (Elt F) ((s₀ m ρ).mem ((c : Thread nD τ).loc main_arg1))
@[inherit_doc tstg] def wstg (c : Dev nD) : (cc0_stg2_0 : Ref sig .tc).ty.Contents (Elt F) :=
  (win0_2.blk (0 : Fin 1)).view.read (Elt F) ((s₀ m ρ).mem ((c : Thread nD τ).loc main_arg2))
@[inherit_doc tstg] def ustg (c : Dev nD) : (cc0_stg3_0 : Ref sig .tc).ty.Contents (Elt F) :=
  (win0_3.blk (0 : Fin 1)).view.read (Elt F) ((s₀ m ρ).mem ((c : Thread nD τ).loc main_arg3))

/-- The gain (one plus the scale) and the shift of device `c`. -/
def gain (c : Dev nD) : FVec F S4x1x256 .f32 := k0_pay10 (tstg m ρ c) (wstg m ρ c)
@[inherit_doc gain] def shft (c : Dev nD) : FVec F S4x1x256 .f32 := k0_pay11 (tstg m ρ c) (ustg m ρ c)

/-- What lands in slot `(ch, j)` of device `c`. -/
def landed (c : Dev nD) (ch : Fin 4) (j : Fin 3) : FVec F S1x1x8x256 .f32 := part4 m ρ (peer c j.rev) ch

/-- Chunk `ch` of the result on device `c`. -/
def outVec (c : Dev nD) (ch : Fin 4) : FVec F S4x256x256 .f32 :=
  outChunk (gain m ρ c) (shft m ρ c) (part m ρ c ch) (landed m ρ c ch 0) (landed m ρ c ch 1) (landed m ρ c ch 2) (xchunk m ρ c ch)

/-- The chunk a row of the sequence axis lies in, and its place there. -/
def chunkOf (i : Fin 1024) : Fin 4 := ⟨i.val / 256, by have := i.isLt; omega⟩
@[inherit_doc chunkOf] def rowOf (i : Fin 1024) : Fin 256 := ⟨i.val % 256, Nat.mod_lt _ (by decide)⟩

/-- The result on device `c`, all chunks. -/
def outBuf (c : Dev nD) : (cc0_stg4_0 : Ref sig .tc).ty.Contents (Elt F) :=
  fun i : S4x1024x256.Idx => outVec m ρ c (chunkOf (i 1 : Fin 1024))
    (fun | 0 => (i 0 : Fin 4) | 1 => rowOf (i 1 : Fin 1024) | 2 => (i 2 : Fin 256))

/-! ## What the views read of these contents -/

/-- Writing, through a view, what the view reads of `g` leaves `g` on the view's elements. -/
theorem write_agrees {κ : Kind} {sp : Space} {s : Shape} {e : EltTy} (v : View sig κ sp s e) (f g : v.ty.Contents (Elt F)) (w : s.Idx → Elt F e)
    (hw : w = v.read (Elt F) g) : ∀ i ∈ v.set, v.write (Elt F) f w Finset.univ i = g i := by
  subst hw
  intro i hi
  rw [View.write_read_eq_piecewise]
  exact Finset.piecewise_eq_of_mem _ _ _ hi

theorem read_stat (c : Dev nD) (ch : Fin 4) :
    (statM.access (statRect ch) : View sig .tc _ _ _).read (Elt F) (statBuf m ρ c) = part3 m ρ c ch := by
  funext y
  have h0 : ((statRect ch).emb y 0).val = ch.val + 1 * (y 0).val := rfl
  have h00 : (y 0).val = 0 := by have : (y 0).val < 1 := (y 0).isLt; omega
  have hc : ((statRect ch).emb y 0 : Fin 4) = ch := Fin.ext (by rw [h0, h00]; rfl)
  show part3 m ρ c ((statRect ch).emb y 0 : Fin 4) (fun | 0 => (0 : Fin 1) | 1 => ((statRect ch).emb y 1 : Fin 8) | 2 => ((statRect ch).emb y 2 : Fin 256)) = part3 m ρ c ch y
  rw [hc]
  refine congrArg _ (funext fun a => Fin.ext ?_)
  match a with
  | 0 => exact h00.symm
  | 1 => show 0 + 1 * (y 1).val = (y 1).val; omega
  | 2 => show 0 + 1 * (y 2).val = (y 2).val; omega

theorem read_comm (c : Dev nD) (ch : Fin 4) (j : Fin 3) :
    (commM.access (commRect ch j) : View sig .tc _ _ _).read (Elt F) (commBuf m ρ c) = landed m ρ c ch j := by
  funext y
  have h0 : ((commRect ch j).emb y 0).val = ch.val + 1 * (y 0).val := rfl
  have h1 : ((commRect ch j).emb y 1).val = j.val + 1 * (y 1).val := rfl
  have h00 : (y 0).val = 0 := by have : (y 0).val < 1 := (y 0).isLt; omega
  have h10 : (y 1).val = 0 := by have : (y 1).val < 1 := (y 1).isLt; omega
  have hc : ((commRect ch j).emb y 0 : Fin 4) = ch := Fin.ext (by rw [h0, h00]; rfl)
  have hj : ((commRect ch j).emb y 1 : Fin 3) = j := Fin.ext (by rw [h1, h10]; rfl)
  show part4 m ρ (peer c (Fin.rev ((commRect ch j).emb y 1 : Fin 3))) ((commRect ch j).emb y 0 : Fin 4)
    (fun | 0 => (0 : Fin 1) | 1 => (0 : Fin 1) | 2 => ((commRect ch j).emb y 2 : Fin 8) | 3 => ((commRect ch j).emb y 3 : Fin 256)) = part4 m ρ (peer c j.rev) ch y
  rw [hc, hj]
  refine congrArg _ (funext fun a => Fin.ext ?_)
  match a with
  | 0 => exact h00.symm
  | 1 => exact h10.symm
  | 2 => show 0 + 1 * (y 2).val = (y 2).val; omega
  | 3 => show 0 + 1 * (y 3).val = (y 3).val; omega

theorem read_out (c : Dev nD) (ch : Fin 4) :
    (oM.access (chunkRect ch) : View sig .tc _ _ _).read (Elt F) (outBuf m ρ c) = outVec m ρ c ch := by
  funext y
  have h1 : ((chunkRect ch).emb y 1).val = 256 * ch.val + 1 * (y 1).val := rfl
  have hy : (y 1).val < 256 := (y 1).isLt
  have hc : chunkOf ((chunkRect ch).emb y 1 : Fin 1024) = ch := Fin.ext (by
    show ((chunkRect ch).emb y 1).val / 256 = ch.val
    rw [h1]; omega)
  show outVec m ρ c (chunkOf ((chunkRect ch).emb y 1 : Fin 1024))
    (fun | 0 => ((chunkRect ch).emb y 0 : Fin 4) | 1 => rowOf ((chunkRect ch).emb y 1 : Fin 1024) | 2 => ((chunkRect ch).emb y 2 : Fin 256)) = outVec m ρ c ch y
  rw [hc]
  refine congrArg _ (funext fun a => Fin.ext ?_)
  match a with
  | 0 => show 0 + 1 * (y 0).val = (y 0).val; omega
  | 1 => show ((chunkRect ch).emb y 1).val % 256 = (y 1).val; rw [h1]; omega
  | 2 => show 0 + 1 * (y 2).val = (y 2).val; omega

/-- A transfer reads the partial sums of its chunk, -/
theorem read_statS (c : Dev nD) (ch : Fin 4) : (statS ch).view.read (Elt F) (statBuf m ρ c) = part m ρ c ch := by
  rw [Memref.read_squeeze_slice statM (statRect ch) (fun _ => rfl) squeezes_S1x8x256_S8x256 shapeCasts_S8x256_S1x8x256.symm (statBuf m ρ c), View.readAt_rect]
  exact (congrArg (fun v => shapeCast S8x256 v _) (read_stat m ρ c ch)).trans (shapeCast_shapeCast _ _ _)

/-- and what it leaves in the peer's slot is what the peer is to find there. -/
theorem read_commS (c : Dev nD) (ch : Fin 4) (j : Fin 3) : (commS ch j).view.read (Elt F) (commBuf m ρ c) = part m ρ (peer c j.rev) ch := by
  rw [Memref.read_squeeze_slice commM (commRect ch j) (fun _ => rfl) squeezes_S1x1x8x256_S8x256 shapeCasts_S1x1x8x256_S8x256 (commBuf m ρ c), View.readAt_rect]
  exact (congrArg (fun v => shapeCast S8x256 v _) (read_comm m ρ c ch j)).trans (shapeCast_shapeCast _ _ _)

/-! ## The pieces of the buffers -/

theorem statS_set (ch : Fin 4) : (statS ch).view.set = (statM.access (statRect ch) : View sig .tc _ _ _).set := View.set_reshape _ _
theorem commS_set (ch : Fin 4) (j : Fin 3) : (commS ch j).view.set = (commM.access (commRect ch j) : View sig .tc _ _ _).set := View.set_reshape _ _

/-- Chunk `ch` of the result's staging buffer is held at contents `f`. -/
def outPts (c : Dev nD) (ch : Fin 4) (f : (cc0_stg4_0 : Ref sig .tc).ty.Contents (Elt F)) : sProp 𝕄 :=
  ((c : Thread nD τ).loc cc0_stg4_0) ↦[(oM.access (chunkRect ch) : View sig .tc _ _ _).set]{fullShare} f

theorem stat_mem {ch : Fin 4} {i : S4x8x256.Idx} : i ∈ (statS ch).view.set ↔ (i 0).val = ch.val := by
  rw [statS_set, show (statM.access (statRect ch) : View sig .tc _ _ _).set = (statRect ch).set from View.set_slice_whole _ _, Rect.mem_set_unit]
  constructor
  · intro h
    have h0 : ch.val ≤ (i 0).val ∧ (i 0).val < ch.val + 1 := h 0
    omega
  · intro h a
    match a with
    | 0 => show ch.val ≤ (i 0).val ∧ (i 0).val < ch.val + 1; omega
    | 1 => show 0 ≤ (i 1).val ∧ (i 1).val < 0 + 8; have : (i 1).val < 8 := (i 1).isLt; omega
    | 2 => show 0 ≤ (i 2).val ∧ (i 2).val < 0 + 256; have : (i 2).val < 256 := (i 2).isLt; omega

theorem comm_mem {ch : Fin 4} {j : Fin 3} {i : S4x3x8x256.Idx} : i ∈ (commS ch j).view.set ↔ (i 0).val = ch.val ∧ (i 1).val = j.val := by
  rw [commS_set, show (commM.access (commRect ch j) : View sig .tc _ _ _).set = (commRect ch j).set from View.set_slice_whole _ _, Rect.mem_set_unit]
  constructor
  · intro h
    have h0 : ch.val ≤ (i 0).val ∧ (i 0).val < ch.val + 1 := h 0
    have h1 : j.val ≤ (i 1).val ∧ (i 1).val < j.val + 1 := h 1
    omega
  · intro h a
    match a with
    | 0 => show ch.val ≤ (i 0).val ∧ (i 0).val < ch.val + 1; omega
    | 1 => show j.val ≤ (i 1).val ∧ (i 1).val < j.val + 1; omega
    | 2 => show 0 ≤ (i 2).val ∧ (i 2).val < 0 + 8; have : (i 2).val < 8 := (i 2).isLt; omega
    | 3 => show 0 ≤ (i 3).val ∧ (i 3).val < 0 + 256; have : (i 3).val < 256 := (i 3).isLt; omega

theorem out_mem {ch : Fin 4} {i : S4x1024x256.Idx} : i ∈ (oM.access (chunkRect ch) : View sig .tc _ _ _).set ↔ (i 1).val / 256 = ch.val := by
  rw [show (oM.access (chunkRect ch) : View sig .tc _ _ _).set = (chunkRect ch).set from View.set_slice_whole _ _, Rect.mem_set_unit]
  constructor
  · intro h
    have h1 : 256 * ch.val ≤ (i 1).val ∧ (i 1).val < 256 * ch.val + 256 := h 1
    omega
  · intro h a
    match a with
    | 0 => show 0 ≤ (i 0).val ∧ (i 0).val < 0 + 4; have : (i 0).val < 4 := (i 0).isLt; omega
    | 1 => show 256 * ch.val ≤ (i 1).val ∧ (i 1).val < 256 * ch.val + 256; omega
    | 2 => show 0 ≤ (i 2).val ∧ (i 2).val < 0 + 256; have : (i 2).val < 256 := (i 2).isLt; omega

/-- A family of sets is a partition when each element lies in the set of one name. -/
theorem blocks_of_name {B I : Type} [Fintype B] [DecidableEq B] [Fintype I] [DecidableEq I] (S : B → Finset I) (name : I → B)
    (h : ∀ b i, i ∈ S b ↔ name i = b) : (∀ b b', b ≠ b' → Disjoint (S b) (S b')) ∧ Finset.univ.biUnion S = Finset.univ :=
  ⟨fun b b' hb => Finset.disjoint_left.mpr fun i hi hi' => hb (((h b i).mp hi).symm.trans ((h b' i).mp hi')),
    Finset.eq_univ_of_forall fun i => Finset.mem_biUnion.mpr ⟨name i, Finset.mem_univ _, (h _ i).mpr rfl⟩⟩

/-- The pieces as sets of elements of their buffers. -/
abbrev statSet (ch : Fin 4) : Finset (cc0_scratch0 : Ref sig .tc).ty.Idx := (statS ch).view.set
@[inherit_doc statSet] abbrev commSet (b : X) : Finset (cc0_scratch1 : Ref sig .tc).ty.Idx := (commS b.1 b.2).view.set
@[inherit_doc statSet] abbrev outSet (ch : Fin 4) : Finset (cc0_stg4_0 : Ref sig .tc).ty.Idx := (oM.access (chunkRect ch) : View sig .tc _ _ _).set

theorem stat_blocks : (∀ b b', b ≠ b' → Disjoint (statSet b) (statSet b')) ∧ Finset.univ.biUnion statSet = Finset.univ :=
  blocks_of_name statSet (fun i => (i 0 : Fin 4)) fun b i => stat_mem.trans ⟨fun h => Fin.ext h, fun h => congrArg Fin.val h⟩

theorem comm_blocks : (∀ b b', b ≠ b' → Disjoint (commSet b) (commSet b')) ∧ Finset.univ.biUnion commSet = Finset.univ :=
  blocks_of_name commSet (fun i => ((i 0 : Fin 4), (i 1 : Fin 3))) fun b i => comm_mem.trans ⟨fun h => Prod.ext (Fin.ext h.1) (Fin.ext h.2),
      fun h => ⟨congrArg (fun p : X => p.1.val) h, congrArg (fun p : X => p.2.val) h⟩⟩

theorem out_blocks : (∀ b b', b ≠ b' → Disjoint (outSet b) (outSet b')) ∧ Finset.univ.biUnion outSet = Finset.univ :=
  blocks_of_name outSet (fun i => chunkOf (i 1 : Fin 1024)) fun b i => out_mem.trans ⟨fun h => Fin.ext h, fun h => congrArg Fin.val h⟩

omit [FloatOps F] in
/-- The buffers held whole are their pieces held: the partial sums, -/
theorem stat_whole (c : Dev nD) (f : (cc0_scratch0 : Ref sig .tc).ty.Contents (Elt F)) :
    (((c : Thread nD τ).loc cc0_scratch0 ↦{fullShare} f : sProp 𝕄)) = bigSep Finset.univ fun ch : Fin 4 => statPts c ch fullShare f :=
  Ring.pointsTo_blocks (ℓ := (c : Thread nD τ).loc cc0_scratch0) statSet stat_blocks.1 stat_blocks.2 f
omit [FloatOps F] in
/-- the landing buffer, -/
theorem comm_whole (c : Dev nD) (f : (cc0_scratch1 : Ref sig .tc).ty.Contents (Elt F)) :
    (((c : Thread nD τ).loc cc0_scratch1 ↦{fullShare} f : sProp 𝕄)) = bigSep Finset.univ fun ch : Fin 4 => bigSep Finset.univ fun j : Fin 3 => commPts c ch j f :=
  (Ring.pointsTo_blocks (ℓ := (c : Thread nD τ).loc cc0_scratch1) commSet comm_blocks.1 comm_blocks.2 f).trans
    (bigSep_univ_prod (fun b : X => commPts (F := F) c b.1 b.2 f))
omit [FloatOps F] in
/-- the result's staging buffer. -/
theorem out_whole (c : Dev nD) (f : (cc0_stg4_0 : Ref sig .tc).ty.Contents (Elt F)) :
    (((c : Thread nD τ).loc cc0_stg4_0 ↦{fullShare} f : sProp 𝕄)) = bigSep Finset.univ fun ch : Fin 4 => outPts c ch f :=
  Ring.pointsTo_blocks (ℓ := (c : Thread nD τ).loc cc0_stg4_0) outSet out_blocks.1 out_blocks.2 f

/-! ## Ghost state -/

/-- Every cell of the exchange is a cell of the schedule, under the name `K` gives it, and is at its first round. -/
def records (K : Dev nD × Option (Bool × X) → ℕ) : sProp 𝕄 :=
  iprop((bigSep Finset.univ fun p => cellInv EX (exRd m ρ) (K p) (kcell p)) ∗ bigSep Finset.univ fun p => reached EX (kcell p) 0)

instance records_persistent (K : Dev nD × Option (Bool × X) → ℕ) : BI.Persistent (records (F := F) m ρ K) := by unfold records; infer_instance

theorem inv_at (K : Dev nD × Option (Bool × X) → ℕ) (p : Dev nD × Option (Bool × X)) :
    records (F := F) m ρ K ⊢ cellInv EX (exRd m ρ) (K p) (kcell p) := by
  unfold records; exact BI.sep_and.trans (BI.and_elimL.trans (bigSep_elim (Finset.mem_univ p)))
theorem reached_at (K : Dev nD × Option (Bool × X) → ℕ) (p : Dev nD × Option (Bool × X)) :
    records (F := F) m ρ K ⊢ reached EX (kcell p) 0 := by
  unfold records; exact BI.sep_and.trans (BI.and_elimR.trans (bigSep_elim (Finset.mem_univ p)))

/-- What device `c` starts a transfer with: the peer's slot, and the tokens of the two duties the transfer pays. -/
def sendRes (c : Dev nD) (ch : Fin 4) (j : Fin 3) : sProp 𝕄 :=
  iprop((∃ f, commPts (peer c j) ch j f) ∗ dutyTok EX (recvCell (peer c j) ch j) 0 0 ∗ dutyTok EX (sendCell c ch j) 0 0)

/-- What it waits for a transfer with: the credit of the landing, and its positions on the two cells. -/
def waitRes (c : Dev nD) (ch : Fin 4) (j : Fin 3) : sProp 𝕄 :=
  iprop(cred (tallyAt (recvCell c ch j) () N) ∗ atPos EX (sendCell c ch j) 0 ∅ 0 ∗ atPos EX (recvCell c ch j) 0 ∅ 0)

/-- What it holds after the wait: the landing slot filled, and the two counters at zero. -/
def doneRes (c : Dev nD) (ch : Fin 4) (j : Fin 3) : sProp 𝕄 :=
  iprop(commPts c ch j (commBuf m ρ c) ∗ semVal (sendCell c ch j) 0 ∗ semVal (recvCell c ch j) 0)

/-- The right to pay, by its `e`-th signal, a duty of the barrier cell of `peer c e`. -/
def sigTok (c : Dev nD) (e : Fin 3) : sProp 𝕄 := dutyTok EX (barCell (peer c e)) 0 e.rev

/-- The positions and tokens device `c` starts with. -/
def linear (c : Dev nD) : sProp 𝕄 :=
  iprop(atPos EX (barCell c) 0 ∅ 0 ∗ (bigSep Finset.univ fun e : Fin 3 => sigTok (F := F) c e)
    ∗ (bigSep Finset.univ fun ch : Fin 4 => bigSep Finset.univ fun j : Fin 3 =>
        iprop(dutyTok EX (recvCell (peer c j) ch j) 0 0 ∗ dutyTok EX (sendCell c ch j) 0 0))
    ∗ (bigSep Finset.univ fun ch : Fin 4 => bigSep Finset.univ fun j : Fin 3 =>
        iprop(atPos EX (sendCell c ch j) 0 ∅ 0 ∗ atPos EX (recvCell c ch j) 0 ∅ 0)))

/-- The credits device `c` starts with. -/
def credits (c : Dev nD) : sProp 𝕄 :=
  iprop(cred (tallyAt (barCell c) () 3) ∗ bigSep Finset.univ fun ch : Fin 4 => bigSep Finset.univ fun j : Fin 3 => cred (tallyAt (recvCell c ch j) () N))

/-- What device `c`'s body starts from. -/
def start (c : Dev nD) : sProp 𝕄 := iprop((∃ K, records m ρ K ∗ linear c) ∗ credits c ∗ levAts L lv)

/-- The two scratch buffers, each whole at some contents. -/
def scratch (c : Dev nD) : sProp 𝕄 :=
  iprop((∃ f : (cc0_scratch0 : Ref sig .tc).ty.Contents (Elt F), ((c : Thread nD τ).loc cc0_scratch0) ↦{fullShare} f)
    ∗ (∃ f : (cc0_scratch1 : Ref sig .tc).ty.Contents (Elt F), ((c : Thread nD τ).loc cc0_scratch1) ↦{fullShare} f))

/-- Before the body, and after it: the exchange's cells are closed, their counters at zero. -/
def Φ₀ (c : Dev nD) : sProp 𝕄 := iprop(start m ρ c ∗ scratch c)
@[inherit_doc Φ₀] def Φ₁ (c : Dev nD) : sProp 𝕄 :=
  iprop(scratch c ∗ (bigSep Finset.univ fun y : Bool × X => semVal ((c : Thread nD τ), osem y) 0) ∗ semVal (barCell c) 0)

/-- The pipeline's proof data: the staged blocks, the result, and the exchange's state around the one point. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => tstg m ρ c
    | ⟨2, _⟩ => wstg m ρ c
    | ⟨3, _⟩ => ustg m ρ c
    | ⟨4, _⟩ => outBuf m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

end Cert.KernelProof
-- ==== Proof.Steps.lean ====
/-
  The pieces of the body, each run once: at any device and any chunk, from what it takes to what it gives.
-/
module

public import proofs.«01_k».proof.Proof.State

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A program of device `c` runs to `Q`. -/
abbrev WP (c : Dev nD) (p : PG F) (Q : PUnit.{1} → sProp 𝕄) : sProp 𝕄 :=
  wp frame (wpE (defs₀ (F := F)) 𝒱₀ (c : Thread nD τ) none) Set.univ p Q

/-- What device `c` owes, whatever waits it has recorded. -/
def owing (c : Dev nD) (O : CellTallies nD τ sig Unit) : sProp 𝕄 := iprop(∃ W, owes (c : Thread nD τ) O W)

omit [FloatOps F] in
/-- The pieces as the loads and stores name them. -/
theorem stat_access (c : Dev nD) (ch : Fin 4) (f : (cc0_scratch0 : Ref sig .tc).ty.Contents (Elt F)) :
    (statPts c ch fullShare f : sProp 𝕄)
      = (((c : Thread nD τ).loc cc0_scratch0) ↦[(statM.access (statRect ch) : View sig .tc _ _ _).set]{fullShare} f) := by
  unfold statPts; rw [statS_set]
omit [FloatOps F] in
@[inherit_doc stat_access] theorem comm_access (c : Dev nD) (ch : Fin 4) (j : Fin 3) (f : (cc0_scratch1 : Ref sig .tc).ty.Contents (Elt F)) :
    (commPts c ch j f : sProp 𝕄)
      = (((c : Thread nD τ).loc cc0_scratch1) ↦[(commM.access (commRect ch j) : View sig .tc _ _ _).set]{fullShare} f) := by
  unfold commPts; rw [commS_set]

omit [FloatOps F] in
@[inherit_doc stat_access] theorem out_access (c : Dev nD) (ch : Fin 4) (f : (cc0_stg4_0 : Ref sig .tc).ty.Contents (Elt F)) :
    (outPts c ch f : sProp 𝕄)
      = (((c : Thread nD τ).loc cc0_stg4_0) ↦[(oM.access (chunkRect ch) : View sig .tc _ _ _).set]{fullShare} f) := rfl

/-- A chunk's slot just written with its partial sums is the slot filled; -/
theorem stat_filled (c : Dev nD) (ch : Fin 4) (f : (cc0_scratch0 : Ref sig .tc).ty.Contents (Elt F)) :
    (((c : Thread nD τ).loc cc0_scratch0 ↦[(statM.access (statRect ch) : View sig .tc _ _ _).set]{fullShare}
        (statM.access (statRect ch) : View sig .tc _ _ _).write (Elt F) f (part3 m ρ c ch) Finset.univ) : sProp 𝕄)
      = statPts c ch fullShare (statBuf m ρ c) := by
  unfold statPts
  rw [statS_set]
  exact pointsTo_congr (write_agrees (F := F) (statM.access (statRect ch) : View sig .tc _ _ _) f (statBuf m ρ c) (part3 m ρ c ch) (read_stat m ρ c ch).symm)

/-- a landing slot just written with what the transfer reads is the slot filled; -/
theorem comm_filled (c : Dev nD) (ch : Fin 4) (j : Fin 3) (f : (cc0_scratch1 : Ref sig .tc).ty.Contents (Elt F)) :
    (((commS ch j).view.loc (peer c j : Thread nD τ) ↦[(commS ch j).view.set]{fullShare}
        (commS ch j).view.write (Elt F) f ((statS ch).view.read (Elt F) (statBuf m ρ c)) Finset.univ) : sProp 𝕄)
      = commPts (peer c j) ch j (commBuf m ρ (peer c j)) := by
  unfold commPts
  refine pointsTo_congr (write_agrees (F := F) (commS ch j).view f (commBuf m ρ (peer c j)) _ ?_)
  rw [read_statS, read_commS, peer_peer]

/-- a chunk of the result just written is the chunk filled. -/
theorem out_filled (c : Dev nD) (ch : Fin 4) (f : (cc0_stg4_0 : Ref sig .tc).ty.Contents (Elt F)) :
    (((c : Thread nD τ).loc cc0_stg4_0 ↦[(oM.access (chunkRect ch) : View sig .tc _ _ _).set]{fullShare}
        (oM.access (chunkRect ch) : View sig .tc _ _ _).write (Elt F) f (outVec m ρ c ch) Finset.univ) : sProp 𝕄)
      = outPts c ch (outBuf m ρ c) := by
  unfold outPts
  exact pointsTo_congr (write_agrees (F := F) (oM.access (chunkRect ch) : View sig .tc _ _ _) f (outBuf m ρ c) (outVec m ρ c ch) (read_out m ρ c ch).symm)

/-- Every transfer credits the same. -/
theorem amount_comm (ch : Fin 4) (j : Fin 3) : (commS ch j).view.amount (.dma (recvS ch j)) = N := by rfl

section Steps
variable (K : Dev nD × Option (Bool × X) → ℕ) (c n : Dev nD) (ch : Fin 4) (j : Fin 3) (k : PG F)
  (Q : PUnit.{1} → sProp (MT nD τ sig Unit (Elt F) ℕ UU ℕ))

/-- The `e`-th signal, to `peer c e`: it pays its duty there, with the slots that `peer c e` will write. -/
theorem run_sig (e : Fin 3) (hn : n = peer c e) (O O' : CellTallies nD τ sig Unit) (hO : O' = O + tallyAt (barCell (peer c e)) () 1) :
    iprop(records m ρ K ∗ owing c O' ∗ sigTok c e ∗ barPay (peer c e) e.rev)
      ⊢ iprop((owing c O -∗ WP c k Q) -∗ WP c (sigP n k) Q) := by
  subst hn
  unfold owing sigP sigTok
  iintro ⟨#HR, ⟨%W, HO⟩, Ht, Hp⟩ Hk
  iapply (Rounds.wp_signal 𝒱₀ EX (exRd m ρ) (c : Thread nD τ) none (dst := (peer c e : Thread nD τ)) (κ := K (peer c e, none))
      (d := e.rev) (by rw [duties_bar]; exact Finset.mem_univ _) ((amount_bar m ρ (peer c e) e.rev).trans (by decide)) () O hO) $$ [HO Ht Hp]
  · isplitr; · iapply (inv_at m ρ K (peer c e, none)); iexact HR
    isplitl [HO]; · iexact HO
    isplitl [Ht]; · iexact Ht
    isplitl [Hp]; · rw [payload_bar]; iexact Hp
    iapply (reached_at m ρ K (peer c e, none)); iexact HR
  iintro HO
  iapply Hk
  iexists W; iexact HO

/-- The wait for the three signals: every other device's slots that `c` will write. -/
theorem run_bar (l : List X) :
    iprop(records m ρ K ∗ levAts L lv ∗ owing c (due c l) ∗ cred (tallyAt (barCell c) () 3) ∗ atPos EX (barCell c) 0 ∅ 0)
      ⊢ iprop(((owing c (due c l) ∗ semVal (barCell c) 0 ∗ bigSep Finset.univ fun j : Fin 3 => barPay c j) -∗ WP c k Q) -∗ WP c (barP k) Q) := by
  unfold owing barP
  iintro ⟨#HR, #Hlev, ⟨%W, HO⟩, Hc, Hat⟩ Hk
  iapply (Rounds.wp_wait_rest_token 𝒱₀ EX (exRd m ρ) (c : Thread nD τ) none (κ := K (c, none))
      (wpE_semWait_eq 𝒱₀ (c : Thread nD τ) none Set.univ) (Set.mem_univ _) () (O := due c l) (W := W) (R := 0) (m := 0) (T := ∅)
      (by rw [expect_bar]; decide)) $$ [Hc HO Hat]
  · isplitr; · iapply (inv_at m ρ K (c, none)); iexact HR
    isplitl [Hc]; · iexact Hc
    isplitl [HO]; · iexact HO
    isplitr; · iapply (mayWait_bar c l); iexact Hlev
    iexact Hat
  iintro ⟨HO, Hat, -, Hpay⟩
  ihave Hp := (Entails.of_eq (rest_bar m ρ c)) $$ Hpay
  imod (Rounds.cell_close EX (exRd m ρ) (Set.mem_univ (K (c, none))) (fun h => h) (R := 0 + 1) (duties_later m ρ (barCell c))) $$ [Hat] with Hz
  · isplitr; · iapply (inv_at m ρ K (c, none)); iexact HR
    iexact Hat
  iapply Hk
  isplitl [HO]; · iexists _; iexact HO
  isplitl [Hz]; · iexact Hz
  iexact Hp

/-- The staged input, held whole. -/
def xPts (c : Dev nD) : sProp 𝕄 := ((c : Thread nD τ).loc cc0_stg0_0) ↦{fullShare} xstg m ρ c

/-- Staging a chunk: its partial sums are in their slot. -/
theorem run_stage (k : Vec F S4x256x256 .f32 → PG F) (f : (cc0_scratch0 : Ref sig .tc).ty.Contents (Elt F)) :
    iprop(xPts m ρ c ∗ statPts c ch fullShare f)
      ⊢ iprop(((xPts m ρ c ∗ statPts c ch fullShare (statBuf m ρ c)) -∗ WP c (k (xchunk m ρ c ch)) Q) -∗ WP c (stageP ch k) Q) := by
  unfold xPts stageP
  iintro ⟨Hx, Hs⟩ Hk
  iapply (wp_load 𝒱₀ (c : Thread nD τ) none Set.univ (m := xM) (Finset.subset_univ _)) $$ Hx; iintro Hx
  ihave Hs := (Entails.of_eq (stat_access c ch f)) $$ Hs
  iapply (wp_load_rect 𝒱₀ (c : Thread nD τ) none Set.univ (m := statM) (r := statRect ch) subset_rfl) $$ Hs; iintro Hs
  iapply (wp_store 𝒱₀ (c : Thread nD τ) none Set.univ (m := statM) (r := statRect ch) (Mk := Finset.univ) (S := (statM.access (statRect ch) : View sig .tc _ _ _).set) subset_rfl) $$ Hs; iintro Hs
  iapply Hk
  isplitl [Hx]; · iexact Hx
  iapply (Entails.of_eq (stat_filled m ρ c ch f))
  iexact Hs

/-- Starting a transfer: its landing is no longer owed, and its reading will be credited. -/
theorem run_send (hn : n = peer c j) (l : List X) :
    iprop(records m ρ K ∗ owing c (due c ((ch, j) :: l)) ∗ statPts c ch (lent j) (statBuf m ρ c) ∗ sendRes c ch j)
      ⊢ iprop(((owing c (due c l) ∗ cred (tallyAt (sendCell c ch j) () N)) -∗ WP c k Q) -∗ WP c (sendP n ch j k) Q) := by
  subst hn
  unfold owing sendP sendRes
  iintro ⟨#HR, ⟨%W, HO⟩, Hs, ⟨%fd, Hd⟩, Ht₂, Ht₁⟩ Hk
  unfold statPts commPts
  iapply (Rounds.wp_send_pointsTo 𝒱₀ EX (exRd m ρ) (c : Thread nD τ) none (κ₁ := K (c, some (false, (ch, j)))) (κ₂ := K (peer c j, some (true, (ch, j))))
    (r₁ := 0) (r₂ := 0) (d₁ := 0) (d₂ := 0) (fd := fd)
    (by rw [duties_send]; exact Finset.mem_singleton_self _) (by rw [duties_recv]; exact Finset.mem_singleton_self _)
    () () N (amount_comm ch j) (amount_send m ρ c ch j 0) (amount_recv m ρ (peer c j) ch j 0) (due c l) rfl (W := W)
    (by rw [payload_send]; exact BI.Entails.refl _)
    (by rw [payload_recv, comm_filled])) $$ [HO Hs Hd Ht₁ Ht₂]
  · isplitr; · iapply (inv_at m ρ K (c, some (false, (ch, j)))); iexact HR
    isplitr; · iapply (inv_at m ρ K (peer c j, some (true, (ch, j)))); iexact HR
    isplitl [Hs]; · iexact Hs
    isplitl [Hd]; · iexact Hd
    isplitl [HO]; · iexact HO
    isplitl [Ht₁]; · iexact Ht₁
    isplitr; · iapply (reached_at m ρ K (c, some (false, (ch, j)))); iexact HR
    isplitl [Ht₂]; · iexact Ht₂
    iapply (reached_at m ρ K (peer c j, some (true, (ch, j)))); iexact HR
  iintro ⟨Hc, HO⟩
  iapply Hk
  isplitl [HO]; · iexists W; iexact HO
  iexact Hc

/-- Waiting for a transfer of its own and the one it receives: the lent share is back, the slot is filled, the two cells closed. -/
theorem run_wait :
    iprop(records m ρ K ∗ owing c 0 ∗ cred (tallyAt (sendCell c ch j) () N) ∗ waitRes c ch j)
      ⊢ iprop(((owing c 0 ∗ statPts c ch (lent j) (statBuf m ρ c) ∗ doneRes m ρ c ch j) -∗ WP c k Q) -∗ WP c (waitP ch j k) Q) := by
  unfold owing waitP waitRes doneRes
  iintro ⟨#HR, ⟨%W, HO⟩, Hcs, Hcv, HatS, HatV⟩ Hk
  iapply (Rounds.wp_wait_rest_token 𝒱₀ EX (exRd m ρ) (c : Thread nD τ) none (κ := K (c, some (false, (ch, j))))
      (wpE_waitDma2_eq 𝒱₀ (c : Thread nD τ) none Set.univ) (Set.mem_univ _) () (O := 0) (W := W) (R := 0) (m := 0) (T := ∅)
      (by rw [Nat.zero_add, expect_send])) $$ [Hcs HO HatS]
  · isplitr; · iapply (inv_at m ρ K (c, some (false, (ch, j)))); iexact HR
    isplitl [Hcs]; · iexact Hcs
    isplitl [HO]; · iexact HO
    isplitr; · rw [MayWait_zero]; iempintro
    iexact HatS
  iintro ⟨HO, HatS, -, Hpay⟩
  ihave Hs := (Entails.of_eq (rest_send m ρ c ch j)) $$ Hpay
  iapply (Rounds.wp_wait_rest_token 𝒱₀ EX (exRd m ρ) (c : Thread nD τ) none (κ := K (c, some (true, (ch, j))))
      (wpE_waitDma2_eq 𝒱₀ (c : Thread nD τ) none Set.univ) (Set.mem_univ _) () (O := 0) (R := 0) (m := 0) (T := ∅)
      (by rw [Nat.zero_add, expect_recv])) $$ [Hcv HO HatV]
  · isplitr; · iapply (inv_at m ρ K (c, some (true, (ch, j)))); iexact HR
    isplitl [Hcv]; · iexact Hcv
    isplitl [HO]; · iexact HO
    isplitr; · rw [MayWait_zero]; iempintro
    iexact HatV
  iintro ⟨HO, HatV, -, Hpay⟩
  ihave Hd := (Entails.of_eq (rest_recv m ρ c ch j)) $$ Hpay
  imod (Rounds.cell_close EX (exRd m ρ) (Set.mem_univ (K (c, some (false, (ch, j))))) (fun h => h) (R := 0 + 1) (duties_later m ρ (sendCell c ch j))) $$ [HatS] with HzS
  · isplitr; · iapply (inv_at m ρ K (c, some (false, (ch, j)))); iexact HR
    iexact HatS
  imod (Rounds.cell_close EX (exRd m ρ) (Set.mem_univ (K (c, some (true, (ch, j))))) (fun h => h) (R := 0 + 1) (duties_later m ρ (recvCell c ch j))) $$ [HatV] with HzV
  · isplitr; · iapply (inv_at m ρ K (c, some (true, (ch, j)))); iexact HR
    iexact HatV
  iapply Hk
  isplitl [HO]; · iexists _; iexact HO
  isplitl [Hs]; · iexact Hs
  isplitl [Hd]; · iexact Hd
  isplitl [HzS]; · iexact HzS
  iexact HzV

/-- Reading a landed slot gives the sender's partial sums. -/
theorem run_landed (k : Vec F S1x1x8x256 .f32 → PG F) :
    doneRes m ρ c ch j ⊢ iprop((doneRes m ρ c ch j -∗ WP c (k (landed m ρ c ch j)) Q) -∗ WP c (landedP ch j k) Q) := by
  unfold doneRes landedP
  iintro ⟨Hd, Hz⟩ Hk
  ihave Hd := (Entails.of_eq (comm_access c ch j (commBuf m ρ c))) $$ Hd
  iapply (wp_load_rect 𝒱₀ (c : Thread nD τ) none Set.univ (m := commM) (r := commRect ch j) subset_rfl) $$ Hd; iintro Hd
  rw [read_comm]
  ihave Hd := (Entails.of_eq (comm_access c ch j (commBuf m ρ c)).symm) $$ Hd
  iapply Hk
  isplitl [Hd]; · iexact Hd
  iexact Hz

/-- Storing a chunk of the result. -/
theorem run_put (f : (cc0_stg4_0 : Ref sig .tc).ty.Contents (Elt F)) :
    iprop(xPts m ρ c ∗ outPts c ch f)
      ⊢ iprop(((xPts m ρ c ∗ outPts c ch (outBuf m ρ c)) -∗ WP c k Q)
        -∗ WP c (putP ch (gain m ρ c) (shft m ρ c) (part m ρ c ch) (landed m ρ c ch 0) (landed m ρ c ch 1) (landed m ρ c ch 2) k) Q) := by
  unfold xPts putP
  iintro ⟨Hx, Hs⟩ Hk
  ihave Hs := (Entails.of_eq (out_access c ch f)) $$ Hs
  iapply (wp_load 𝒱₀ (c : Thread nD τ) none Set.univ (m := xM) (Finset.subset_univ _)) $$ Hx; iintro Hx
  iapply (wp_load_rect 𝒱₀ (c : Thread nD τ) none Set.univ (m := oM) (r := chunkRect ch) subset_rfl) $$ Hs; iintro Hs
  iapply (wp_store 𝒱₀ (c : Thread nD τ) none Set.univ (m := oM) (r := chunkRect ch) (Mk := Finset.univ) (S := (oM.access (chunkRect ch) : View sig .tc _ _ _).set) subset_rfl) $$ Hs; iintro Hs
  iapply Hk
  isplitl [Hx]; · iexact Hx
  iapply (Entails.of_eq (out_filled m ρ c ch f))
  iexact Hs

/-- Finishing a chunk. -/
theorem run_finish (f : (cc0_stg4_0 : Ref sig .tc).ty.Contents (Elt F)) :
    iprop(records m ρ K ∗ owing c 0 ∗ (bigSep Finset.univ fun j : Fin 3 => cred (tallyAt (sendCell c ch j) () N))
        ∗ (bigSep Finset.univ fun j : Fin 3 => waitRes (F := F) c ch j) ∗ xPts m ρ c ∗ outPts c ch f)
      ⊢ iprop(((owing c 0 ∗ statPts c ch fullShare (statBuf m ρ c) ∗ (bigSep Finset.univ fun j : Fin 3 => doneRes m ρ c ch j)
            ∗ xPts m ρ c ∗ outPts c ch (outBuf m ρ c)) -∗ WP c k Q)
        -∗ WP c (finishP ch (gain m ρ c) (shft m ρ c) (part m ρ c ch) k) Q) := by
  simp only [sep_fin3, statPts_lend]
  unfold finishP
  iintro ⟨#HR, HO, ⟨Hc0, Hc1, Hc2⟩, ⟨Hw0, Hw1, Hw2⟩, Hx, Ho⟩ Hk
  iapply (run_wait m ρ K c ch 0) $$ [HO Hc0 Hw0]
  · isplitr; · iexact HR
    isplitl [HO]; · iexact HO
    isplitl [Hc0]; · iexact Hc0
    iexact Hw0
  iintro ⟨HO, Hs0, Hd0⟩
  iapply (run_wait m ρ K c ch 1) $$ [HO Hc1 Hw1]
  · isplitr; · iexact HR
    isplitl [HO]; · iexact HO
    isplitl [Hc1]; · iexact Hc1
    iexact Hw1
  iintro ⟨HO, Hs1, Hd1⟩
  iapply (run_wait m ρ K c ch 2) $$ [HO Hc2 Hw2]
  · isplitr; · iexact HR
    isplitl [HO]; · iexact HO
    isplitl [Hc2]; · iexact Hc2
    iexact Hw2
  iintro ⟨HO, Hs2, Hd2⟩
  iapply (run_landed m ρ c ch 0) $$ Hd0; iintro Hd0
  iapply (run_landed m ρ c ch 1) $$ Hd1; iintro Hd1
  iapply (run_landed m ρ c ch 2) $$ Hd2; iintro Hd2
  iapply (run_put m ρ c ch k Q f) $$ [Hx Ho]
  · isplitl [Hx]; · iexact Hx
    iexact Ho
  iintro ⟨Hx, Ho⟩
  iapply Hk
  isplitl [HO]; · iexact HO
  isplitl [Hs0 Hs1 Hs2]
  · isplitl [Hs0]; · iexact Hs0
    isplitl [Hs1]; · iexact Hs1
    iexact Hs2
  isplitl [Hd0 Hd1 Hd2]
  · isplitl [Hd0]; · iexact Hd0
    isplitl [Hd1]; · iexact Hd1
    iexact Hd2
  isplitl [Hx]; · iexact Hx
  iexact Ho

/-- Starting the three transfers of a chunk. -/
theorem run_sends (n0 n1 n2 : Dev nD) (h0 : n0 = peer c 0) (h1 : n1 = peer c 1) (h2 : n2 = peer c 2) (l : List X) :
    iprop(records m ρ K ∗ owing c (due c ((ch, 0) :: (ch, 1) :: (ch, 2) :: l)) ∗ statPts c ch fullShare (statBuf m ρ c)
        ∗ (bigSep Finset.univ fun j : Fin 3 => sendRes (F := F) c ch j))
      ⊢ iprop(((owing c (due c l) ∗ (bigSep Finset.univ fun j : Fin 3 => cred (tallyAt (sendCell c ch j) () N))) -∗ WP c k Q)
        -∗ WP c (sendP n0 ch 0 <| sendP n1 ch 1 <| sendP n2 ch 2 k) Q) := by
  simp only [sep_fin3, statPts_lend]
  iintro ⟨#HR, HO, ⟨Hs0, Hs1, Hs2⟩, Hr0, Hr1, Hr2⟩ Hk
  iapply (run_send m ρ K c n0 ch 0 _ Q h0) $$ [HO Hs0 Hr0]
  · isplitr; · iexact HR
    isplitl [HO]; · iexact HO
    isplitl [Hs0]; · iexact Hs0
    iexact Hr0
  iintro ⟨HO, Hc0⟩
  iapply (run_send m ρ K c n1 ch 1 _ Q h1) $$ [HO Hs1 Hr1]
  · isplitr; · iexact HR
    isplitl [HO]; · iexact HO
    isplitl [Hs1]; · iexact Hs1
    iexact Hr1
  iintro ⟨HO, Hc1⟩
  iapply (run_send m ρ K c n2 ch 2 _ Q h2) $$ [HO Hs2 Hr2]
  · isplitr; · iexact HR
    isplitl [HO]; · iexact HO
    isplitl [Hs2]; · iexact Hs2
    iexact Hr2
  iintro ⟨HO, Hc2⟩
  iapply Hk
  isplitl [HO]; · iexact HO
  isplitl [Hc0]; · iexact Hc0
  isplitl [Hc1]; · iexact Hc1
  iexact Hc2

end Steps

end Cert.KernelProof
-- ==== Proof.Body.lean ====
/-
  The body: all its pieces in a row, and the exchange of the landing slots around them.  The library's body obligation.
-/
module

public import proofs.«01_k».proof.Proof.Steps

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Regrouping -/

/-- A conjunction over the kernel's own semaphores, by transfer: the send semaphores, then the receive semaphores; -/
theorem sep_own {M : Type} [URA M] (Φ : Bool × X → sProp M) : bigSep Finset.univ Φ
    = iprop((bigSep Finset.univ fun ch : Fin 4 => bigSep Finset.univ fun j : Fin 3 => Φ (false, (ch, j)))
        ∗ (bigSep Finset.univ fun ch : Fin 4 => bigSep Finset.univ fun j : Fin 3 => Φ (true, (ch, j)))) := by
  rw [bigSep_univ_prod, bigSep_univ_eq_bigSepL [false, true] (by decide) (by decide)]
  show iprop((bigSep Finset.univ fun x : X => Φ (false, x)) ∗ (bigSep Finset.univ fun x : X => Φ (true, x))) = _
  rw [bigSep_univ_prod, bigSep_univ_prod]

/-- over all semaphores of the exchange, the barrier's first. -/
theorem sep_cells {M : Type} [URA M] (Φ : Option (Bool × X) → sProp M) : bigSep Finset.univ Φ
    = iprop(Φ none ∗ (bigSep Finset.univ fun ch : Fin 4 => bigSep Finset.univ fun j : Fin 3 => Φ (some (false, (ch, j))))
        ∗ (bigSep Finset.univ fun ch : Fin 4 => bigSep Finset.univ fun j : Fin 3 => Φ (some (true, (ch, j))))) := by
  rw [bigSep_univ_at Φ none, show (Finset.univ : Finset (Option (Bool × X))).erase none = Finset.univ.map ⟨some, Option.some_injective _⟩ from by decide,
    bigSep_map, ← sep_own fun y => Φ (some y)]
  rfl

omit [FloatOps F] in
/-- Device `c`'s landing buffer, dealt out: with its `e`-th signal go the slots that `peer c e` will write. -/
theorem slots_out (c : Dev nD) (f : (cc0_scratch1 : Ref sig .tc).ty.Contents (Elt F)) :
    (((c : Thread nD τ).loc cc0_scratch1 ↦{fullShare} f : sProp 𝕄)) ⊢ bigSep Finset.univ fun e : Fin 3 => barPay (peer c e) e.rev := by
  rw [comm_whole, bigSep_univ_comm, bigSep_univ_equiv Fin.revPerm]
  refine bigSep_mono fun e _ => ?_
  unfold barPay
  rw [peer_peer]
  refine bigSep_mono fun ch _ => ?_
  show (commPts c ch e.rev f : sProp 𝕄) ⊢ iprop(∃ f, commPts c ch e.rev f)
  iintro H
  iexists f
  iexact H

omit [FloatOps F] in
/-- What the three signals brought, with the tokens: all that the transfers start with. -/
theorem slots_in (c : Dev nD) :
    iprop((bigSep Finset.univ fun j : Fin 3 => barPay (F := F) c j)
        ∗ (bigSep Finset.univ fun ch : Fin 4 => bigSep Finset.univ fun j : Fin 3 =>
            iprop(dutyTok EX (recvCell (peer c j) ch j) 0 0 ∗ dutyTok EX (sendCell c ch j) 0 0)))
      ⊢ (bigSep Finset.univ fun ch : Fin 4 => bigSep Finset.univ fun j : Fin 3 => sendRes c ch j : sProp 𝕄) := by
  unfold barPay sendRes
  rw [bigSep_univ_comm (fun j : Fin 3 => fun ch : Fin 4 => iprop(∃ f, commPts (F := F) (peer c j) ch j f))]
  simp only [bigSep_sep']
  exact BI.Entails.refl _

omit [FloatOps F] in
/-- Credits and positions by transfer. -/
theorem waits_in (c : Dev nD) :
    iprop((bigSep Finset.univ fun ch : Fin 4 => bigSep Finset.univ fun j : Fin 3 => cred (tallyAt (recvCell c ch j) () N))
        ∗ (bigSep Finset.univ fun ch : Fin 4 => bigSep Finset.univ fun j : Fin 3 =>
            iprop(atPos EX (sendCell c ch j) 0 ∅ 0 ∗ atPos EX (recvCell c ch j) 0 ∅ 0)))
      ⊢ (bigSep Finset.univ fun ch : Fin 4 => bigSep Finset.univ fun j : Fin 3 => waitRes c ch j : sProp 𝕄) := by
  unfold waitRes
  simp only [bigSep_sep']
  exact BI.Entails.refl _

/-- After all waits: the landing buffer whole, every own counter at zero. -/
theorem done_out (c : Dev nD) :
    (bigSep Finset.univ fun ch : Fin 4 => bigSep Finset.univ fun j : Fin 3 => doneRes m ρ c ch j : sProp 𝕄)
      ⊢ iprop(((c : Thread nD τ).loc cc0_scratch1 ↦{fullShare} commBuf m ρ c) ∗ (bigSep Finset.univ fun y : Bool × X => semVal ((c : Thread nD τ), osem y) 0)) := by
  rw [comm_whole, sep_own]
  unfold doneRes
  simp only [bigSep_sep']
  exact BI.Entails.refl _

/-! ## The parameters -/

/-- The staged parameters, held whole. -/
def parPts (c : Dev nD) : sProp 𝕄 :=
  iprop((((c : Thread nD τ).loc cc0_stg1_0) ↦{fullShare} tstg m ρ c) ∗ (((c : Thread nD τ).loc cc0_stg2_0) ↦{fullShare} wstg m ρ c)
    ∗ (((c : Thread nD τ).loc cc0_stg3_0) ↦{fullShare} ustg m ρ c))

theorem hz : (![0, 0] : Fin 2 → Nat) = fun _ => 0 := funext fun a => by fin_cases a <;> rfl

/-- Reading the parameters gives the gain and the shift. -/
theorem run_params (c : Dev nD) (k : FVec F S4x1x256 .f32 → FVec F S4x1x256 .f32 → PG F) (Q : PUnit.{1} → sProp 𝕄) :
    parPts m ρ c ⊢ iprop((parPts m ρ c -∗ WP c (k (gain m ρ c) (shft m ρ c)) Q) -∗ WP c (paramsP k) Q) := by
  unfold parPts paramsP gain shft
  iintro ⟨Ht, Hw, Hu⟩ Hk
  iapply (wp_load 𝒱₀ (c : Thread nD τ) none Set.univ (m := tM) (Finset.subset_univ _)) $$ Ht; iintro Ht
  iapply (wp_load 𝒱₀ (c : Thread nD τ) none Set.univ (m := wM) (Finset.subset_univ _)) $$ Hw; iintro Hw
  iapply (wp_load 𝒱₀ (c : Thread nD τ) none Set.univ (m := tM) (Finset.subset_univ _)) $$ Ht; iintro Ht
  iapply (wp_load 𝒱₀ (c : Thread nD τ) none Set.univ (m := uM) (Finset.subset_univ _)) $$ Hu; iintro Hu
  rw [show ∀ h1, (tM : Memref sig .tc .vmem S4x128 .f32).view.readAt (Elt F) (Rect.unit (s := S4x128) ![0, 0] S4x128.size h1).toLoadRect (tstg m ρ c) = tstg m ρ c from
      fun h1 => Memref.readAt_unit_zero (Elt F) cc0_stg1_0 hz h1 _,
    show ∀ h1, (wM : Memref sig .tc .vmem S128x256 .f32).view.readAt (Elt F) (Rect.unit (s := S128x256) ![0, 0] S128x256.size h1).toLoadRect (wstg m ρ c) = wstg m ρ c from
      fun h1 => Memref.readAt_unit_zero (Elt F) cc0_stg2_0 hz h1 _,
    show ∀ h1, (uM : Memref sig .tc .vmem S128x256 .f32).view.readAt (Elt F) (Rect.unit (s := S128x256) ![0, 0] S128x256.size h1).toLoadRect (ustg m ρ c) = ustg m ρ c from
      fun h1 => Memref.readAt_unit_zero (Elt F) cc0_stg3_0 hz h1 _]
  iapply Hk
  isplitl [Ht]; · iexact Ht
  isplitl [Hw]; · iexact Hw
  iexact Hu

/-! ## The pieces in a row -/

/-- What the pieces take, beside the records and the levels, -/
def pre (c : Dev nD) (fs : (cc0_scratch0 : Ref sig .tc).ty.Contents (Elt F)) (fo : (cc0_stg4_0 : Ref sig .tc).ty.Contents (Elt F)) : sProp 𝕄 :=
  iprop(owing c (O₀ c) ∗ xPts m ρ c ∗ parPts m ρ c ∗ (bigSep Finset.univ fun ch : Fin 4 => outPts c ch fo)
    ∗ (bigSep Finset.univ fun ch : Fin 4 => statPts c ch fullShare fs)
    ∗ (bigSep Finset.univ fun e : Fin 3 => barPay (F := F) (peer c e) e.rev) ∗ linear (F := F) c ∗ credits (F := F) c)
/-- and what they leave. -/
def post (c : Dev nD) : sProp 𝕄 :=
  iprop(owing c 0 ∗ xPts m ρ c ∗ parPts m ρ c ∗ (bigSep Finset.univ fun ch : Fin 4 => outPts c ch (outBuf m ρ c))
    ∗ (bigSep Finset.univ fun ch : Fin 4 => statPts c ch fullShare (statBuf m ρ c))
    ∗ (bigSep Finset.univ fun ch : Fin 4 => bigSep Finset.univ fun j : Fin 3 => doneRes m ρ c ch j) ∗ semVal (barCell c) 0)

/-- The body, from what it takes to what it leaves. -/
theorem run_prog (K : Dev nD × Option (Bool × X) → ℕ) (c : Dev nD) (Q : PUnit.{1} → sProp 𝕄)
    (fs : (cc0_scratch0 : Ref sig .tc).ty.Contents (Elt F)) (fo : (cc0_stg4_0 : Ref sig .tc).ty.Contents (Elt F)) :
    iprop(records m ρ K ∗ levAts L lv ∗ pre m ρ c fs fo) ⊢ iprop((post m ρ c -∗ Q ⟨⟩) -∗ WP c (prog c) Q) := by
  unfold pre linear credits
  iintro ⟨#HR, #Hlev, HO, Hx, Hp, Ho, Hs, Hb, ⟨HatB, Hsig, Htok, Hat⟩, HcB, HcV⟩ Hk
  ihave Hw := (waits_in (F := F) c) $$ [HcV Hat]
  · isplitl [HcV]; · iexact HcV
    iexact Hat
  ihave ⟨Hb0, Hb1, Hb2⟩ := (Entails.of_eq (sep_fin3 _)) $$ Hb
  ihave ⟨Hg0, Hg1, Hg2⟩ := (Entails.of_eq (sep_fin3 _)) $$ Hsig
  ihave ⟨Ho0, Ho1, Ho2, Ho3⟩ := (Entails.of_eq (sep_fin4 _)) $$ Ho
  ihave ⟨Hs0, Hs1, Hs2, Hs3⟩ := (Entails.of_eq (sep_fin4 _)) $$ Hs
  ihave ⟨Hw0, Hw1, Hw2, Hw3⟩ := (Entails.of_eq (sep_fin4 _)) $$ Hw
  unfold prog
  -- the three signals
  iapply (run_sig m ρ K c _ _ Q 0 (dev1_eq c) (O₁ c) (O₀ c) rfl) $$ [HO Hg0 Hb0]
  · isplitr; · iexact HR
    isplitl [HO]; · iexact HO
    isplitl [Hg0]; · iexact Hg0
    iexact Hb0
  iintro HO
  iapply (run_sig m ρ K c _ _ Q 1 (dev2_eq c) (O₂ c) (O₁ c) rfl) $$ [HO Hg1 Hb1]
  · isplitr; · iexact HR
    isplitl [HO]; · iexact HO
    isplitl [Hg1]; · iexact Hg1
    iexact Hb1
  iintro HO
  iapply (run_sig m ρ K c _ _ Q 2 (dev3_eq c) (due c allX) (O₂ c) rfl) $$ [HO Hg2 Hb2]
  · isplitr; · iexact HR
    isplitl [HO]; · iexact HO
    isplitl [Hg2]; · iexact Hg2
    iexact Hb2
  iintro HO
  -- the first chunk, and the barrier
  iapply (run_stage m ρ c 0 Q _ fs) $$ [Hx Hs0]
  · isplitl [Hx]; · iexact Hx
    iexact Hs0
  iintro ⟨Hx, Hs0⟩
  iapply (run_bar m ρ K c _ Q allX) $$ [HO HcB HatB]
  · isplitr; · iexact HR
    isplitr; · iexact Hlev
    isplitl [HO]; · iexact HO
    isplitl [HcB]; · iexact HcB
    iexact HatB
  iintro ⟨HO, HzB, Hb⟩
  ihave Hr := (slots_in (F := F) c) $$ [Hb Htok]
  · isplitl [Hb]; · iexact Hb
    iexact Htok
  ihave ⟨Hr0, Hr1, Hr2, Hr3⟩ := (Entails.of_eq (sep_fin4 _)) $$ Hr
  unfold allX
  iapply (run_sends m ρ K c 0 _ Q _ _ _ (dev4_eq c) (dev5_eq c) (dev6_eq c) _) $$ [HO Hs0 Hr0]
  · isplitr; · iexact HR
    isplitl [HO]; · iexact HO
    isplitl [Hs0]; · iexact Hs0
    iexact Hr0
  iintro ⟨HO, Hc0⟩
  -- the other chunks
  iapply (run_stage m ρ c 1 Q _ fs) $$ [Hx Hs1]
  · isplitl [Hx]; · iexact Hx
    iexact Hs1
  iintro ⟨Hx, Hs1⟩
  iapply (run_sends m ρ K c 1 _ Q _ _ _ (dev7_eq c) (dev8_eq c) (dev9_eq c) _) $$ [HO Hs1 Hr1]
  · isplitr; · iexact HR
    isplitl [HO]; · iexact HO
    isplitl [Hs1]; · iexact Hs1
    iexact Hr1
  iintro ⟨HO, Hc1⟩
  iapply (run_stage m ρ c 2 Q _ fs) $$ [Hx Hs2]
  · isplitl [Hx]; · iexact Hx
    iexact Hs2
  iintro ⟨Hx, Hs2⟩
  iapply (run_sends m ρ K c 2 _ Q _ _ _ (dev10_eq c) (dev11_eq c) (dev12_eq c) _) $$ [HO Hs2 Hr2]
  · isplitr; · iexact HR
    isplitl [HO]; · iexact HO
    isplitl [Hs2]; · iexact Hs2
    iexact Hr2
  iintro ⟨HO, Hc2⟩
  iapply (run_stage m ρ c 3 Q _ fs) $$ [Hx Hs3]
  · isplitl [Hx]; · iexact Hx
    iexact Hs3
  iintro ⟨Hx, Hs3⟩
  iapply (run_sends m ρ K c 3 _ Q _ _ _ (dev13_eq c) (dev14_eq c) (dev15_eq c) _) $$ [HO Hs3 Hr3]
  · isplitr; · iexact HR
    isplitl [HO]; · iexact HO
    isplitl [Hs3]; · iexact Hs3
    iexact Hr3
  iintro ⟨HO, Hc3⟩
  -- the parameters
  iapply (run_params m ρ c _ Q) $$ Hp
  iintro Hp
  -- finishing
  iapply (run_finish m ρ K c 0 _ Q fo) $$ [HO Hc0 Hw0 Hx Ho0]
  · isplitr; · iexact HR
    isplitl [HO]; · iexact HO
    isplitl [Hc0]; · iexact Hc0
    isplitl [Hw0]; · iexact Hw0
    isplitl [Hx]; · iexact Hx
    iexact Ho0
  iintro ⟨HO, Hs0, Hd0, Hx, Ho0⟩
  iapply (run_finish m ρ K c 1 _ Q fo) $$ [HO Hc1 Hw1 Hx Ho1]
  · isplitr; · iexact HR
    isplitl [HO]; · iexact HO
    isplitl [Hc1]; · iexact Hc1
    isplitl [Hw1]; · iexact Hw1
    isplitl [Hx]; · iexact Hx
    iexact Ho1
  iintro ⟨HO, Hs1, Hd1, Hx, Ho1⟩
  iapply (run_finish m ρ K c 2 _ Q fo) $$ [HO Hc2 Hw2 Hx Ho2]
  · isplitr; · iexact HR
    isplitl [HO]; · iexact HO
    isplitl [Hc2]; · iexact Hc2
    isplitl [Hw2]; · iexact Hw2
    isplitl [Hx]; · iexact Hx
    iexact Ho2
  iintro ⟨HO, Hs2, Hd2, Hx, Ho2⟩
  iapply (run_finish m ρ K c 3 _ Q fo) $$ [HO Hc3 Hw3 Hx Ho3]
  · isplitr; · iexact HR
    isplitl [HO]; · iexact HO
    isplitl [Hc3]; · iexact Hc3
    isplitl [Hw3]; · iexact Hw3
    isplitl [Hx]; · iexact Hx
    iexact Ho3
  iintro ⟨HO, Hs3, Hd3, Hx, Ho3⟩
  unfold WP; rw [wp_ret]; imodintro
  iapply Hk
  unfold post
  simp only [sep_fin4]
  isplitl [HO]; · iexact HO
  isplitl [Hx]; · iexact Hx
  isplitl [Hp]; · iexact Hp
  isplitl [Ho0 Ho1 Ho2 Ho3]
  · isplitl [Ho0]; · iexact Ho0
    isplitl [Ho1]; · iexact Ho1
    isplitl [Ho2]; · iexact Ho2
    iexact Ho3
  isplitl [Hs0 Hs1 Hs2 Hs3]
  · isplitl [Hs0]; · iexact Hs0
    isplitl [Hs1]; · iexact Hs1
    isplitl [Hs2]; · iexact Hs2
    iexact Hs3
  isplitl [Hd0 Hd1 Hd2 Hd3]
  · isplitl [Hd0]; · iexact Hd0
    isplitl [Hd1]; · iexact Hd1
    isplitl [Hd2]; · iexact Hd2
    iexact Hd3
  iexact HzB

end Cert.KernelProof
-- ==== Proof.Launch.lean ====
/-
  The launch: the body as the pipeline asks for it, the ghost state of the four devices made and dealt, the run of the whole program.
-/
module

public import proofs.«01_k».proof.Proof.Body
public import proofs.«01_k».proof.Proof.Gen.KernelIdeal.Points
public import Idealize.ShloMosaic.Lib.Pipeline.CollectiveSegs

@[expose] public section

noncomputable section

namespace Cert.KernelProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body as the pipeline asks for it -/

/-- What the pipeline's staging buffers hold before the body: the inputs staged, the result's buffer anything. -/
def stagedIn (c : Dev nD) : sProp 𝕄 :=
  iprop(xPts m ρ c ∗ parPts m ρ c ∗ ∃ fo : (cc0_stg4_0 : Ref sig .tc).ty.Contents (Elt F), ((c : Thread nD τ).loc cc0_stg4_0) ↦{fullShare} fo)

/-- From the state before the body to the state after it. -/
theorem run_kernel (c : Dev nD) :
    iprop(Φ₀ m ρ c ∗ owing c (O₀ c) ∗ stagedIn m ρ c)
      ⊢ WP c (cc0_body (F := F) (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _)
          (Memref.whole cc0_scratch1) (Memref.isWhole_whole _) cc0_scratch2 cc0_scratch3)
        fun _ => iprop(Φ₁ c ∗ owing c 0 ∗ xPts m ρ c ∗ parPts m ρ c ∗ (((c : Thread nD τ).loc cc0_stg4_0) ↦{fullShare} outBuf m ρ c)) := by
  rw [body_eq]
  unfold WP
  rw [wp_deviceId]
  unfold Φ₀ start scratch stagedIn
  iintro ⟨⟨⟨⟨%K, #HR, Hlin⟩, Hcr, #Hlev⟩, ⟨%fs, Hs⟩, ⟨%fd, Hd⟩⟩, HO, Hx, Hp, ⟨%fo, Ho⟩⟩
  iapply (run_prog m ρ K c _ fs fo) $$ [Hlin Hcr Hs Hd HO Hx Hp Ho]
  · isplitr; · iexact HR
    isplitr; · iexact Hlev
    unfold pre
    isplitl [HO]; · iexact HO
    isplitl [Hx]; · iexact Hx
    isplitl [Hp]; · iexact Hp
    isplitl [Ho]; · iapply (Entails.of_eq (out_whole c fo)); iexact Ho
    isplitl [Hs]; · iapply (Entails.of_eq (stat_whole c fs)); iexact Hs
    isplitl [Hd]; · iapply (slots_out c fd); iexact Hd
    isplitl [Hlin]; · iexact Hlin
    iexact Hcr
  unfold post
  iintro ⟨HO, Hx, Hp, Ho, Hs, Hd, Hz⟩
  ihave ⟨Hd, Hzs⟩ := (done_out m ρ c) $$ Hd
  ihave Hs := (Entails.of_eq (stat_whole c (statBuf m ρ c)).symm) $$ Hs
  ihave Ho := (Entails.of_eq (out_whole c (outBuf m ρ c)).symm) $$ Ho
  isplitl [Hs Hd Hzs Hz]
  · unfold Φ₁ scratch
    isplitl [Hs Hd]
    · isplitl [Hs]; · iexists _; iexact Hs
      iexists _; iexact Hd
    isplitl [Hzs]; · iexact Hzs
    iexact Hz
  isplitl [HO]; · iexact HO
  isplitl [Hx]; · iexact Hx
  isplitl [Hp]; · iexact Hp
  iexact Ho

/-- The pipeline's only point. -/
abbrev t₀ : Fin cfg0.N := (0 : Fin 1)

/-- A staging buffer, held whole at contents `f`. -/
abbrev staged (c : Dev nD) (b : Ref sig .tc) (f : b.ty.Contents (Elt F)) : sProp 𝕄 := owns (c : Thread nD τ) (Memref.whole b) fullShare f

/-- An input's staging buffer holds its block when the body starts. -/
theorem before_eq (c : Dev nD) (w : Fin cfg0.W) (hw : (cfg0.win w).fetch t₀ = true) (d) :
    (dats m ρ 0 c).before w t₀ d = (dats m ρ 0 c).fetched w t₀ d := by
  unfold Dat.before; rw [if_pos hw]

set_option maxRecDepth 4000 in
/-- The library's obligation for the body on device `c`. -/
theorem body_obligation (c : Dev nD) : BodyObligation (dats (F := F) m ρ 0 c) (defs₀ (F := F)) 𝒱₀ () Set.univ := fun t => by
  rw [fin_N0 t]
  rw [bigSep_W0, bigSep_W0]
  refine (show _ ⊢ iprop(Φ₀ m ρ c ∗ owing c (O₀ c) ∗ stagedIn m ρ c) from ?_).trans ((run_kernel m ρ c).trans (wp_mono _ _ _ fun _ => ?_))
  · show iprop(Φ₀ m ρ c ∗ (dats m ρ 0 c).owesAt () t₀.castSucc
      ∗ (∃ d, staged c cc0_stg0_0 ((dats m ρ 0 c).before (0 : Fin 5) t₀ d))
      ∗ (∃ d, staged c cc0_stg1_0 ((dats m ρ 0 c).before (1 : Fin 5) t₀ d))
      ∗ (∃ d, staged c cc0_stg2_0 ((dats m ρ 0 c).before (2 : Fin 5) t₀ d))
      ∗ (∃ d, staged c cc0_stg3_0 ((dats m ρ 0 c).before (3 : Fin 5) t₀ d))
      ∗ (∃ d, staged c cc0_stg4_0 ((dats m ρ 0 c).before (4 : Fin 5) t₀ d))) ⊢ _
    unfold stagedIn xPts parPts owing Dat.owesAt Pipeline.owesWithin
    simp only [owns_whole]
    iintro ⟨HΦ, ⟨%W, -, HO⟩, ⟨%d0, H0⟩, ⟨%d1, H1⟩, ⟨%d2, H2⟩, ⟨%d3, H3⟩, ⟨%d4, H4⟩⟩
    isplitl [HΦ]; · iexact HΦ
    isplitl [HO]; · iexists W; iexact HO
    isplitl [H0]; · rw [before_eq m ρ c (0 : Fin 5) (fetch0_0 _)]; iexact H0
    isplitl [H1 H2 H3]
    · isplitl [H1]; · rw [before_eq m ρ c (1 : Fin 5) (fetch0_1 _)]; iexact H1
      isplitl [H2]; · rw [before_eq m ρ c (2 : Fin 5) (fetch0_2 _)]; iexact H2
      rw [before_eq m ρ c (3 : Fin 5) (fetch0_3 _)]; iexact H3
    iexists _; iexact H4
  · show _ ⊢ iprop(Φ₁ c ∗ (dats m ρ 0 c).owesAt () t₀.succ ∗ staged c cc0_stg0_0 (xstg m ρ c) ∗ staged c cc0_stg1_0 (tstg m ρ c)
      ∗ staged c cc0_stg2_0 (wstg m ρ c) ∗ staged c cc0_stg3_0 (ustg m ρ c) ∗ staged c cc0_stg4_0 (outBuf m ρ c))
    unfold xPts parPts owing Dat.owesAt Pipeline.owesWithin
    simp only [owns_whole]
    iintro ⟨HΦ, ⟨%W, HO⟩, H0, ⟨H1, H2, H3⟩, H4⟩
    isplitl [HΦ]; · iexact HΦ
    isplitl [HO]
    · iexists W
      isplitr; · ipureintro; exact fun _ _ => Or.inl trivial
      iexact HO
    isplitl [H0]; · iexact H0
    isplitl [H1]; · iexact H1
    isplitl [H2]; · iexact H2
    isplitl [H3]; · iexact H3
    iexact H4

/-! ## The launch element -/

/-- Every cell of the exchange. -/
def exCells : Finset (GSem nD τ sig) := Finset.univ.map ⟨kcell, kcell_injective⟩

/-- A device's own duties: three at its barrier cell, one at each cell of its own semaphores. -/
abbrev Duty : Type := Fin 3 ⊕ (Bool × X)

/-- The token of a duty: its cell, round and name. -/
abbrev tokOf (p : Dev nD × Duty) : GSem nD τ sig × ℕ × Fin 3 := match p.2 with
  | .inl d => (barCell p.1, 0, d)
  | .inr y => (kcell (p.1, some y), 0, 0)

theorem tokOf_injective : Function.Injective tokOf := by
  rintro ⟨c, d | y⟩ ⟨c', d' | y'⟩ h
  · have h1 := kcell_injective (a₁ := (c, none)) (a₂ := (c', none)) (congrArg (·.1) h)
    exact Prod.ext (congrArg (·.1) h1) (congrArg Sum.inl (congrArg (·.2.2) h))
  · exact absurd (congrArg (·.2) (kcell_injective (a₁ := (c, none)) (a₂ := (c', some y')) (congrArg (·.1) h))) (Option.some_ne_none _).symm
  · exact absurd (congrArg (·.2) (kcell_injective (a₁ := (c, some y)) (a₂ := (c', none)) (congrArg (·.1) h))) (Option.some_ne_none _)
  · have h1 := kcell_injective (a₁ := (c, some y)) (a₂ := (c', some y')) (congrArg (·.1) h)
    exact Prod.ext (congrArg (·.1) h1) (congrArg Sum.inr (Option.some.inj (congrArg (·.2) h1)))

def exToks : Finset (GSem nD τ sig × ℕ × Fin 3) := Finset.univ.map ⟨tokOf, tokOf_injective⟩

/-- What the launch mints: the pipeline's cells, and the exchange's. -/
def u₀ : UU :=
  (initOf (Pipeline.cells cfgs cellOf_inj) (Pipeline.launchToks cfgs cellOf_inj), initOf exCells exToks)

/-- The tokens of device `c`'s own duties. -/
def toks (c : Dev nD) : sProp 𝕄 :=
  iprop((bigSep Finset.univ fun d : Fin 3 => dutyTok EX (barCell c) 0 d)
    ∗ (bigSep Finset.univ fun x : X => dutyTok EX (sendCell c x.1 x.2) 0 0) ∗ (bigSep Finset.univ fun x : X => dutyTok EX (recvCell c x.1 x.2) 0 0))

/-- A device's positions and first rounds. -/
def places (c : Dev nD) : sProp 𝕄 :=
  bigSep Finset.univ fun k : Option (Bool × X) => iprop(atPos EX (kcell (c, k)) 0 ∅ 0 ∗ reached EX (kcell (c, k)) 0)

/-- What the launch element deals device `c`, -/
def G (c : Dev nD) : sProp 𝕄 :=
  iprop((bigSep Finset.univ fun k : Option (Bool × X) => roundState EX (exRd m ρ) (kcell (c, k)) 0) ∗ places (F := F) c ∗ toks (F := F) c)
/-- and what is left of it once the cells are made and the tokens are with their payers. -/
def G' (c : Dev nD) : sProp 𝕄 := iprop(∃ K, records m ρ K ∗ linear c)

theorem fund_exchange : BI.own (EX (initOf exCells exToks)) ⊢ (|==> bigSep Finset.univ (G m ρ) : sProp 𝕄) := by
  have hX (Φ : GSem nD τ sig → sProp 𝕄) : bigSep exCells Φ = bigSep Finset.univ fun c : Dev nD => bigSep Finset.univ fun k : Option (Bool × X) => Φ (kcell (c, k)) := by
    unfold exCells; rw [bigSep_map, bigSep_univ_prod]; rfl
  have hT : bigSep exToks (fun x => (dutyTok EX x.1 x.2.1 x.2.2 : sProp 𝕄)) = bigSep Finset.univ fun c : Dev nD => toks c := by
    unfold exToks; rw [bigSep_map, bigSep_univ_prod]
    refine bigSep_congr fun c _ => ?_
    unfold toks
    rw [bigSep_univ_sum, bigSep_univ_prod, bigSep_univ_eq_bigSepL [false, true] (by decide) (by decide)]
    rfl
  iintro HX
  imod (Rounds.fund EX (exRd m ρ) exCells exToks) $$ HX with ⟨Hst, Hr, Hat, Htok⟩
  imodintro
  ihave Hst := (Entails.of_eq (hX fun g => roundState EX (exRd m ρ) g 0)) $$ Hst
  ihave Hat := (Entails.of_eq (hX fun g => atPos EX g 0 ∅ 0)) $$ Hat
  ihave Hr := (Entails.of_eq (hX fun g => reached EX g 0)) $$ Hr
  ihave Htok := (Entails.of_eq hT) $$ Htok
  unfold G places; simp only [bigSep_sep']
  isplitl [Hst]; · iexact Hst
  isplitl [Hat Hr]
  · isplitl [Hat]; · iexact Hat
    iexact Hr
  iexact Htok

/-! ## Making the cells -/

theorem ownSemFacts : Pipeline.OwnSemFacts cfg0.spec osem := by decide

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- The counters of the exchange, all of them. -/
theorem counters_eq (c : Dev nD) : (bigSep Finset.univ fun k : Option (Bool × X) => semVal (kcell (c, k)) 0 : sProp 𝕄)
    = iprop(semVal (barCell c) 0 ∗ Pipeline.ownSems0 (Ix := Unit) (Name := ℕ) (U := UU) (Lvl := ℕ) (Val := Elt F) (τ := τ) osem c) := by
  unfold Pipeline.ownSems0
  rw [sep_cells, sep_own]

/-- A device's counters and round states become its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EX (exRd m ρ) κ (kcell (c, k)))) ∗ places c ∗ toks c) := by
  unfold G
  iintro ⟨Hos, Hus, Hst, Hat, Htok⟩
  ihave Hus := (Entails.of_eq (unscopedSems0_eq (F := F) c)) $$ Hus
  ihave Hv := (Entails.of_eq (counters_eq (F := F) c).symm) $$ [Hos Hus]
  · isplitl [Hus]; · iexact Hus
    iexact Hos
  imod (show iprop((bigSep Finset.univ fun k : Option (Bool × X) => semVal (kcell (c, k)) 0)
        ∗ bigSep Finset.univ fun k : Option (Bool × X) => roundState EX (exRd m ρ) (kcell (c, k)) 0)
      ⊢ (|={Set.univ}=> bigSep Finset.univ fun k => iprop(∃ κ : ℕ, cellInv EX (exRd m ρ) κ (kcell (c, k))) : sProp 𝕄) from by
        rw [← bigSep_sep']
        exact (bigSep_mono fun k _ => (Rounds.body_intro EX (exRd m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

omit [FloatOps F] in
/-- Families over the devices dealt around: each member moves by its own permutation. -/
theorem deal {Y : Type} [Fintype Y] (e : Y → (Dev nD ≃ Dev nD)) (Φ : Dev nD → Y → sProp 𝕄) :
    (bigSep Finset.univ fun c : Dev nD => bigSep Finset.univ fun y : Y => Φ c y)
      = bigSep Finset.univ fun c : Dev nD => bigSep Finset.univ fun y : Y => Φ (e y c) y := by
  rw [bigSep_univ_comm, bigSep_univ_comm (fun c y => Φ (e y c) y)]
  exact bigSep_congr fun y _ => bigSep_univ_equiv (e y) fun c => Φ c y

omit [FloatOps F] in
/-- The tokens, from the devices whose duties they are of to the devices that pay them. -/
theorem toks_dealt : (bigSep Finset.univ fun c : Dev nD => (toks c : sProp 𝕄))
    = bigSep Finset.univ fun c : Dev nD => iprop((bigSep Finset.univ fun e : Fin 3 => sigTok c e)
        ∗ (bigSep Finset.univ fun ch : Fin 4 => bigSep Finset.univ fun j : Fin 3 =>
            iprop(dutyTok EX (recvCell (peer c j) ch j) 0 0 ∗ dutyTok EX (sendCell c ch j) 0 0))) := by
  have hb : (bigSep Finset.univ fun c : Dev nD => bigSep Finset.univ fun d : Fin 3 => (dutyTok EX (barCell c) 0 d : sProp 𝕄))
      = bigSep Finset.univ fun c : Dev nD => bigSep Finset.univ fun e : Fin 3 => sigTok c e := by
    rw [bigSep_congr fun c _ => bigSep_univ_equiv Fin.revPerm fun d : Fin 3 => (dutyTok EX (barCell c) 0 d : sProp 𝕄)]
    exact deal peerEquiv fun c e => dutyTok EX (barCell c) 0 (Fin.rev e)
  unfold toks
  simp only [bigSep_sep']
  rw [hb, deal (fun x : X => peerEquiv x.2) fun c x => dutyTok EX (recvCell c x.1 x.2) 0 0]
  simp only [bigSep_univ_prod]
  have hswap (A B : sProp 𝕄) : iprop(A ∗ B) = iprop(B ∗ A) := BI.Entails.antisymm BI.sep_comm BI.sep_comm
  exact congrArg _ (hswap _ _)

/-- A device's positions and the tokens it pays with. -/
def share (c : Dev nD) : sProp 𝕄 :=
  iprop((bigSep Finset.univ fun k : Option (Bool × X) => atPos EX (kcell (c, k)) 0 ∅ 0)
    ∗ (bigSep Finset.univ fun e : Fin 3 => sigTok c e)
      ∗ (bigSep Finset.univ fun ch : Fin 4 => bigSep Finset.univ fun j : Fin 3 =>
          iprop(dutyTok EX (recvCell (peer c j) ch j) 0 0 ∗ dutyTok EX (sendCell c ch j) 0 0)))

/-- A device's share, with the records, is what it starts from. -/
theorem share_intro (K : Dev nD × Option (Bool × X) → ℕ) (c : Dev nD) : iprop(records m ρ K ∗ share c) ⊢ G' m ρ c := by
  unfold G' share linear
  rw [sep_cells]
  simp only [bigSep_sep']
  iintro ⟨HR, ⟨HaB, HaS, HaV⟩, Hs, HtV, HtS⟩
  iexists K
  isplitl [HR]; · iexact HR
  isplitl [HaB]; · iexact HaB
  isplitl [Hs]; · iexact Hs
  isplitl [HtV HtS]
  · isplitl [HtV]; · iexact HtV
    iexact HtS
  isplitl [HaS]; · iexact HaS
  iexact HaV

/-- The cells' invariants and what was dealt are every device's start. -/
theorem regroup :
    (bigSep Finset.univ fun c : Dev nD => iprop((bigSep Finset.univ fun k => iprop(∃ κ : ℕ, cellInv EX (exRd m ρ) κ (kcell (c, k)))) ∗ places c ∗ toks c) : sProp 𝕄)
      ⊢ bigSep Finset.univ (G' m ρ) := by
  unfold places
  simp only [bigSep_sep']
  rw [toks_dealt, ← bigSep_univ_prod (fun p : Dev nD × Option (Bool × X) => iprop(∃ κ : ℕ, cellInv EX (exRd m ρ) κ (kcell p))),
    ← bigSep_univ_prod (fun p : Dev nD × Option (Bool × X) => (reached EX (kcell p) 0 : sProp 𝕄))]
  iintro ⟨HI, ⟨Hat, #HR⟩, Htok⟩
  ihave HK := (BI.bigSep_exists_pi Finset.univ (fun (p : Dev nD × Option (Bool × X)) (κ : ℕ) => (cellInv EX (exRd m ρ) κ (kcell p) : sProp 𝕄))) $$ HI
  icases HK with ⟨%K, #HI⟩
  iapply (bigSep_with_persistent (R := records m ρ K) (Φ := share (F := F)) fun c _ => share_intro m ρ K c)
  isplitr
  · unfold records
    isplitl; · iexact HI
    iexact HR
  · unfold share
    rw [bigSep_sep' Finset.univ (fun c : Dev nD => bigSep Finset.univ fun k : Option (Bool × X) => (atPos EX (kcell (c, k)) 0 ∅ 0 : sProp 𝕄))]
    isplitl [Hat]; · iexact Hat
    iexact Htok

/-- The devices' semaphores and launch elements, all at once, become cells and dealt tokens. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

omit [FloatOps F] in
/-- The devices owing each other the landings of a list of transfers, each device is dealt its own landings' credits. -/
theorem creds_due (c : Dev nD) (l : List X) (hl : l.Nodup) :
    (Pipeline.launchCred (fun d => due d l) c : sProp 𝕄) ⊢ bigSep l.toFinset fun x : X => cred (tallyAt (recvCell c x.1 x.2) () N) := by
  induction l with
  | nil => unfold due; rw [Pipeline.launchCred_zero]; exact Entails.of_eq rfl
  | cons x l ih =>
    rw [List.toFinset_cons, bigSep_insert (by rw [List.mem_toFinset]; exact (List.nodup_cons.mp hl).1)]
    unfold due
    rw [Pipeline.launchCred_add]
    show _ ⊢ iprop(cred (tallyAt (recvCell c x.1 x.2) () N) ∗ bigSep l.toFinset fun x : X => cred (tallyAt (recvCell c x.1 x.2) () N))
    iintro ⟨Hl, Hx⟩
    isplitl [Hx]
    · iapply (Pipeline.launchCred_tallyAt (.dma (recvS x.1 x.2)) (fun d => peer d x.2) (fun d => peer d x.2.rev) (fun d => peer_peer' d x.2) (fun d => peer_peer d x.2) () N c)
      iexact Hx
    · iapply (ih (List.nodup_cons.mp hl).2); iexact Hl

omit [FloatOps F] in
theorem creds_bar (c : Dev nD) (e : Fin 3) :
    (Pipeline.launchCred (fun d => tallyAt (barCell (peer d e)) () 1) c : sProp 𝕄) ⊢ cred (tallyAt (barCell c) () 1) :=
  Pipeline.launchCred_tallyAt (.reg barS) (fun d => peer d e) (fun d => peer d e.rev) (fun d => peer_peer' d e) (fun d => peer_peer d e) () 1 c

omit [FloatOps F] in
/-- What the launch deals a device: the credits of its waits. -/
theorem creds (c : Dev nD) : (Pipeline.launchCred O₀ c : sProp 𝕄) ⊢ credits c := by
  unfold credits
  rw [show (O₀ : Dev nD → CellTallies nD τ sig Unit) = fun d => ((due d allX + tallyAt (barCell (peer d 2)) () 1) + tallyAt (barCell (peer d 1)) () 1)
      + tallyAt (barCell (peer d 0)) () 1 from rfl]
  rw [Pipeline.launchCred_add, Pipeline.launchCred_add, Pipeline.launchCred_add,
    ← bigSep_univ_prod (fun x : X => (cred (tallyAt (recvCell c x.1 x.2) () N) : sProp 𝕄)), show (Finset.univ : Finset X) = allX.toFinset from by decide]
  iintro ⟨⟨⟨Hl, H2⟩, H1⟩, H0⟩
  isplitl [H0 H1 H2]
  · rw [show (tallyAt (barCell c) () 3 : CellTallies nD τ sig Unit) = tallyAt (barCell c) () 1 + (tallyAt (barCell c) () 1 + tallyAt (barCell c) () 1) from by
      rw [tallyAt_add, tallyAt_add]]
    iapply (cred_add _ _).2
    isplitl [H0]; · iapply (creds_bar (F := F) c 0); iexact H0
    iapply (cred_add _ _).2
    isplitl [H1]; · iapply (creds_bar (F := F) c 1); iexact H1
    iapply (creds_bar (F := F) c 2); iexact H2
  iapply (creds_due (F := F) c allX (by decide)); iexact Hl

/-! ## The pipeline's side conditions -/

theorem share_eq (c : Dev nD) (w : Fin cfg0.W) : (dats m ρ 0 c).share w = fullShare := by unfold Dat.share; split <;> rfl

/-- What the launch deals a device is its start. -/
theorem start_intro (c : Dev nD) :
    iprop(Pipeline.unscopedRestP Pipeline.Prefetch.none cfg0.spec c (fun b => m ((c : Thread nD τ).loc b)) ∗ levAts L lv ∗ Pipeline.launchCred O₀ c ∗ prngReg c (ρ c) ∗ G' m ρ c)
      ⊢ |={Set.univ}=> iprop(start m ρ c ∗ emp) := by
  unfold G' start
  iintro ⟨-, Hlev, Hcr, -, HG⟩
  ihave Hcr := (creds (F := F) c) $$ Hcr
  imodintro
  isplitl
  · isplitl [HG]; · iexact HG
    isplitl [Hcr]; · iexact Hcr
    iexact Hlev
  · iempintro

/-- The start and the scratch buffers are the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- The state after the body gives the counters back at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_eq]
  unfold Φ₁ scratch Pipeline.ownSems0
  iintro ⟨Hs, Ho, Hb⟩
  isplitl [Hb]; · iexact Hb
  isplitl [Ho]; · iexact Ho
  iexact Hs

/-- The pipeline's own waits are allowed whatever the exchange owes. -/
theorem waits (c : Dev nD) : (levAts L lv : sProp 𝕄) ⊢ Pipeline.cellsWaits cfgs (dats m ρ) () 0 c :=
  Pipeline.cellsWaits_intro cfgs (dats m ρ) () 0 c fun w s t => mayWait_stage c _ (decode_none (by fin_cases w <;> fin_cases s <;> decide)) _ (by
    rcases t with ⟨_ | _, ht⟩
    · exact Or.inl rfl
    · exact Or.inr rfl)

/-! ## The run of the whole program -/

/-- What an array holds when the program has ended. -/
def finalA (c : Dev nD) (w : Fin cfg0.W) : Buf (Elt F) ((cfg0.win w).arr.view.loc (c : Thread nD τ)) := (dats m ρ 0 c).arrAt w cfg0.N

/-- Every array of every device at its final contents. -/
def Ends (r : PUnit.{1} × MemSt nD τ sig (Elt F)) : Prop :=
  ∀ (c : Dev nD) (w : Fin cfg0.W), r.2.mem ((cfg0.win w).arr.view.loc (c : Thread nD τ)) = finalA m ρ c w

set_option maxRecDepth 8000 in
/-- From any store every run of the program ends, its arrays at their final contents and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main (hmain := fun _ => rfl)
    (hbody := body_obligation m ρ) (hne := fun w => by fin_cases w <;> exact Nat.succ_pos _) (harr := arr_whole0) (hstage := stage_whole0) (hshare := share_eq m ρ)
    (hdistinct := winFacts0.arr_inj) (O₀ := O₀) (howed₀ := fun _ => rfl) (howedN := fun _ => rfl)
    (L := L) (lv := lv) (hL := L_of_ne) (hwaits := waits m ρ) (G := G m ρ) (G' := G' m ρ) (u₀ := u₀)
    (hu₀ := by
      unfold u₀
      iintro Hu
      ihave H := (ownU_pair _ _) $$ Hu
      icases H with ⟨HP, HX⟩
      imod (fund_exchange m ρ) $$ HX with HG
      imodintro
      isplitl [HP] <;> iassumption)
    (hglob := glob m ρ) (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.KernelProof
-- ==== Proof.Ends.lean ====
/-
  What the arrays hold when the program has ended: the four arguments what they held at the start, the result the normalized chunks.
-/
module

public import proofs.«01_k».proof.Proof.Launch

@[expose] public section

noncomputable section

namespace Cert.KernelProof

open Cert.KernelIdeal Cert.KernelIdeal.Gen
open Idealize.ShloMosaic
open Idealize.ShloMosaic.TcCoe
open Idealize.SL Idealize.SL.RA Idealize.SL.BI
open Idealize.SL.Sem
open Idealize.ShloMosaic.Pipeline (Dat Cfg Window)

variable {F : FTy → Type} [FloatOps F]

variable (m : (ℓ : Loc nD τ sig) → Buf (Elt F) ℓ) (ρ : Dev nD → PrngReg)

/-- The four argument arrays of device `c` hold at the end what they held at the start. -/
def Kept (r : PUnit.{1} × MemSt nD τ sig (Elt F)) (c : Dev nD) : Prop :=
  r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)

/-- The pipeline writes no argument. -/
theorem kept {r : PUnit.{1} × MemSt nD τ sig (Elt F)} (h : Ends m ρ r) (c : Dev nD) : Kept m r c :=
  ⟨(h c (0 : Fin 5)).trans ((dats m ρ 0 c).arrAt_in (0 : Fin 5) rfl _), (h c (1 : Fin 5)).trans ((dats m ρ 0 c).arrAt_in (1 : Fin 5) rfl _),
    (h c (2 : Fin 5)).trans ((dats m ρ 0 c).arrAt_in (2 : Fin 5) rfl _), (h c (3 : Fin 5)).trans ((dats m ρ 0 c).arrAt_in (3 : Fin 5) rfl _)⟩

/-- The block of the result's only write-back is the whole array. -/
theorem result_block (f : (main_v1 : Ref sig .tc).ty.Contents (Elt F)) : (win0_4.blk (0 : Fin 1)).view.read (Elt F) f = f :=
  have hz : (fun a => win0_4.index (0 : Fin 1) a * (main_v1 : Ref sig .tc).ty.shape.size a) = fun _ => 0 := funext fun a => by fin_cases a <;> decide
  Memref.read_access_unit_zero (Elt F) main_v1 hz (fun a => by fin_cases a <;> decide) f

/-- The result array ends at the chunks the body computed. -/
theorem result_final (c : Dev nD) : finalA m ρ c (4 : Fin 5) = outBuf m ρ c := by
  have h : (win0_4.blk (0 : Fin 1)).view.read (Elt F) (finalA m ρ c (4 : Fin 5)) = outBuf m ρ c := by
    unfold finalA
    rw [show cfg0.N = ((0 : Fin 1) : Fin cfg0.N).val + 1 from rfl, (dats m ρ 0 c).arrAt_succ (4 : Fin 5) (0 : Fin 1)]
    rw [show (cfg0.win (4 : Fin 5)).flush (0 : Fin 1) = true from by decide, if_pos rfl]
    exact View.read_write_univ _ _
  exact (result_block _).symm.trans h

theorem result_ends {r : PUnit.{1} × MemSt nD τ sig (Elt F)} (h : Ends m ρ r) (c : Dev nD) : r.2.mem ((c : Thread nD τ).loc main_v1) = outBuf m ρ c :=
  (h c (4 : Fin 5)).trans (result_final m ρ c)

/-- The staged inputs are the arrays: the conditioning vectors, -/
theorem tstg_eq (c : Dev nD) : tstg m ρ c = m ((c : Thread nD τ).loc main_arg1) :=
  have hz : (fun a => win0_1.index (0 : Fin 1) a * (main_arg1 : Ref sig .tc).ty.shape.size a) = fun _ => 0 := funext fun a => by fin_cases a <;> decide
  Memref.read_access_unit_zero (Elt F) main_arg1 hz (fun a => by fin_cases a <;> decide) _
/-- the weights of the scale, -/
theorem wstg_eq (c : Dev nD) : wstg m ρ c = m ((c : Thread nD τ).loc main_arg2) :=
  have hz : (fun a => win0_2.index (0 : Fin 1) a * (main_arg2 : Ref sig .tc).ty.shape.size a) = fun _ => 0 := funext fun a => by fin_cases a <;> decide
  Memref.read_access_unit_zero (Elt F) main_arg2 hz (fun a => by fin_cases a <;> decide) _
/-- the weights of the shift, -/
theorem ustg_eq (c : Dev nD) : ustg m ρ c = m ((c : Thread nD τ).loc main_arg3) :=
  have hz : (fun a => win0_3.index (0 : Fin 1) a * (main_arg3 : Ref sig .tc).ty.shape.size a) = fun _ => 0 := funext fun a => by fin_cases a <;> decide
  Memref.read_access_unit_zero (Elt F) main_arg3 hz (fun a => by fin_cases a <;> decide) _
/-- and the activations. -/
theorem xstg_eq (c : Dev nD) : xstg m ρ c = m ((c : Thread nD τ).loc main_arg0) :=
  have hz : (fun a => win0_0.index (0 : Fin 1) a * (main_arg0 : Ref sig .tc).ty.shape.size a) = fun _ => 0 := funext fun a => by fin_cases a <;> decide
  Memref.read_access_unit_zero (Elt F) main_arg0 hz (fun a => by fin_cases a <;> decide) _

/-- The run with the arrays read: the arguments kept, the result the normalized chunks, every counter at zero. -/
theorem run_ends : θ_run defs (onTc (τ := τ) (main (F := F))) ⟨m, fun _ => 0, ρ⟩
    (fun r => (∀ c : Dev nD, r.2.mem ((c : Thread nD τ).loc main_v1) = outBuf m ρ c ∧ Kept m r c) ∧ r.2.sem = fun _ => 0) :=
  (θ_run defs _ _).mono (fun _ h => ⟨fun c => ⟨result_ends m ρ h.1 c, kept m ρ h.1 c⟩, h.2⟩) (run_main m ρ)

/-- The same with the result's value dropped. -/
theorem run_kept : θ_run defs (onTc (τ := τ) (main (F := F))) ⟨m, fun _ => 0, ρ⟩ (fun r => (∀ c : Dev nD, Kept m r c) ∧ r.2.sem = fun _ => 0) :=
  (θ_run defs _ _).mono (fun _ h => ⟨fun c => (h.1 c).2, h.2⟩) (run_ends m ρ)

end Cert.KernelProof
-- ==== Proof.Frames.lean ====
/-
  The frames: each program ends, its arguments as they were and every semaphore counter at zero.
-/
module

public import proofs.«01_k».proof.Defs
public import proofs.«01_k».proof.Proof.Ends
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Lib.Quiescent

@[expose] public section

noncomputable section

namespace Cert.Frames

open Idealize.ShloMosaic Idealize.SL.Sem

/-- The precondition's broadcast is one, at a device's shapes -/
instance preKernel : Cert.Pre_finite_x_KernelIdeal.Facts where
  bcast_S_S4x1024x256 := by decide
/-- and at the whole arrays'. -/
instance preReference : Cert.Pre_finite_x_ReferenceIdeal.Facts where
  bcast_S_S4x1024x1024 := by decide

/-- The two programs have one text: the kernel's body, -/
theorem bodies_same : Cert.Kernel.defs₀ (F := Bits) = Cert.KernelIdeal.defs₀ (F := Bits) := by
  unfold Cert.Kernel.defs₀ Cert.KernelIdeal.defs₀
  refine congrArg Defs.onTc (funext fun ℓ => funext fun a => ?_)
  fin_cases ℓ
  rfl

/-- and the table of what a call runs. -/
theorem tables_same : Cert.Kernel.defs (F := Bits) = Cert.KernelIdeal.defs (F := Bits) := congrArg (Pipeline.defs Cert.Kernel.pcfgs) bodies_same

/-- The kernel as printed, over the float words: the run of the shared text with the result's value dropped. -/
theorem frame_kernel : Cert.quiescent_Kernel := fun m ρ _ => by
  rw [tables_same]
  exact Cert.KernelProof.run_kept (F := Bits) m ρ

/-- The kernel over the extended reals. -/
theorem frame_kernelIdeal : Cert.quiescent_KernelIdeal := fun m ρ _ =>
  Cert.KernelProof.run_kept (F := Ideal) m ρ

/-- The kernel over the extended reals, at finite `x`. -/
theorem frame_kernelIdeal_pre : Cert.quiescent_KernelIdeal_pre_finite_x_KernelIdeal := fun m ρ _ => frame_kernelIdeal m ρ trivial

/-- The reference over the extended reals. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The reference over the extended reals, at finite `x`. -/
theorem frame_reference_pre : Cert.quiescent_ReferenceIdeal_pre_finite_x_ReferenceIdeal := fun m ρ _ => frame_reference m ρ trivial

end Cert.Frames
-- ==== Proof.KernelValue.lean ====
/-
  What the kernel leaves in the result, element by element, over real arithmetic: the element of `x` normalized by the sum and
  the sum of squares of its row across the four devices, scaled by the gain and shifted.
-/
module

public import proofs.«01_k».proof.Proof.Ends
public import Idealize.ShloMosaic.Lib.Pointwise

@[expose] public section

noncomputable section

namespace Cert.KernelProof

open Cert.KernelIdeal Cert.KernelIdeal.Gen
open Idealize.ShloMosaic
open Idealize.ShloMosaic.TcCoe

/-! ## The vectors the body computes, read at an index -/

/-- The first four rows of a chunk's partial sums are the sums over its rows, -/
theorem part_sum_apply (xv : FVec Ideal S4x256x256 .f32) (b : Fin 4) (r : Fin 256) :
    k0_pay2 (F := Ideal) xv (ix2 (b.castAdd 4) r) = ∑ k : Fin 256, xv (ix3 b r k) := by
  pointwise [k0_pay2]
  exact dif_pos b.isLt

/-- and the last four the sums of the squares. -/
theorem part_sq_apply (xv : FVec Ideal S4x256x256 .f32) (b : Fin 4) (r : Fin 256) :
    k0_pay2 (F := Ideal) xv (ix2 (b.natAdd 4) r) = ∑ k : Fin 256, xv (ix3 b r k) * xv (ix3 b r k) := by
  pointwise [k0_pay2]
  have h : ¬ (b.natAdd 4).val < 4 := by simp
  have hb : (⟨(b.natAdd 4).val - 4, by simp⟩ : Fin 4) = b := Fin.ext (by simp)
  refine (dif_neg h).trans ?_
  simp only [hb]

/-- The gain is one plus a product of the conditioning vector with a weight's column, -/
theorem gain_apply (t : FVec Ideal S4x128 .f32) (w : FVec Ideal S128x256 .f32) (b : Fin 4) (l : Fin 256) :
    k0_pay10 (F := Ideal) t w (ix3 b 0 l) = 1 + ∑ d : Fin 128, t (ix2 b d) * w (ix2 d l) := by
  pointwise [k0_pay10]

/-- the shift such a product. -/
theorem shift_apply (t : FVec Ideal S4x128 .f32) (w : FVec Ideal S128x256 .f32) (b : Fin 4) (l : Fin 256) :
    k0_pay11 (F := Ideal) t w (ix3 b 0 l) = ∑ d : Fin 128, t (ix2 b d) * w (ix2 d l) := by
  pointwise [k0_pay11]

/-- The mean is the four partial sums' sum over the row's length. -/
theorem mean_apply (p : FVec Ideal S8x256 .f32) (p0 p1 p2 : FVec Ideal S1x1x8x256 .f32) (b : Fin 4) (r : Fin 256) :
    k0_pay17 (F := Ideal) p p0 p1 p2 (ix2 b r)
      = (p (ix2 (b.castAdd 4) r) + p0 (ix4 0 0 (b.castAdd 4) r) + p1 (ix4 0 0 (b.castAdd 4) r) + p2 (ix4 0 0 (b.castAdd 4) r))
          * Ideal.ofBits .f32 0x3A800000#32 := by
  pointwise [k0_pay17, k0_pay16]
  rfl

/-- The factor is the reciprocal root of the mean of the squares less the square of the mean, plus the small constant. -/
theorem factor_apply (p : FVec Ideal S8x256 .f32) (p0 p1 p2 : FVec Ideal S1x1x8x256 .f32) (b : Fin 4) (r : Fin 256) :
    k0_pay18 (F := Ideal) p p0 p1 p2 (ix2 b r)
      = Ideal.rsqrt ((p (ix2 (b.natAdd 4) r) + p0 (ix4 0 0 (b.natAdd 4) r) + p1 (ix4 0 0 (b.natAdd 4) r) + p2 (ix4 0 0 (b.natAdd 4) r))
          * Ideal.ofBits .f32 0x3A800000#32
        - k0_pay17 (F := Ideal) p p0 p1 p2 (ix2 b r) * k0_pay17 (F := Ideal) p p0 p1 p2 (ix2 b r) + Ideal.ofBits .f32 0x3727C5AC#32) := by
  pointwise [k0_pay18, k0_pay16]
  rfl

/-- The result's element. -/
theorem out_apply (g s : FVec Ideal S4x1x256 .f32) (mn rs : FVec Ideal S4x256 .f32) (xv : FVec Ideal S4x256x256 .f32) (b : Fin 4) (r l : Fin 256) :
    k0_pay19 (F := Ideal) g s mn rs xv (ix3 b r l)
      = (xv (ix3 b r l) - mn (ix2 b r)) * rs (ix2 b r) * g (ix3 b 0 l) + s (ix3 b 0 l) := by
  pointwise [k0_pay19]

/-! ## The arguments -/

variable (m : (ℓ : Loc nD τ sig) → Buf (Elt Ideal) ℓ) (ρ : Dev nD → PrngReg)

/-- The block of `x` on device `c`, the conditioning vectors there, and the two weight blocks. -/
def xArg (c : Dev nD) : FVec Ideal S4x1024x256 .f32 := m ((c : Thread nD τ).loc main_arg0)
@[inherit_doc xArg] def tArg (c : Dev nD) : FVec Ideal S4x128 .f32 := m ((c : Thread nD τ).loc main_arg1)
@[inherit_doc xArg] def wArg (c : Dev nD) : FVec Ideal S128x256 .f32 := m ((c : Thread nD τ).loc main_arg2)
@[inherit_doc xArg] def uArg (c : Dev nD) : FVec Ideal S128x256 .f32 := m ((c : Thread nD τ).loc main_arg3)

/-- Chunk by chunk, `x` is the argument's rows. -/
theorem xchunk_apply (c : Dev nD) (b : Fin 4) (s : Fin 1024) (k : Fin 256) :
    xchunk m ρ c (chunkOf s) (ix3 b (rowOf s) k) = xArg m c (ix3 b s k) := by
  show xstg m ρ c ((chunkRect (chunkOf s)).emb (ix3 b (rowOf s) k)) = _
  rw [xstg_eq]
  refine congrArg (xArg m c) (funext fun a => Fin.ext ?_)
  match a with
  | 0 => show 0 + 1 * b.val = b.val; omega
  | 1 => show 256 * (s.val / 256) + 1 * (s.val % 256) = s.val; omega
  | 2 => show 0 + 1 * k.val = k.val; omega

/-- What lands from a peer is its partial sums. -/
theorem landed_apply (c : Dev nD) (ch : Fin 4) (j : Fin 3) (q : Fin 8) (r : Fin 256) :
    landed m ρ c ch j (ix4 0 0 q r) = part m ρ (peer c j.rev) ch (ix2 q r) := by
  unfold landed part4
  pointwise []

/-- A device's own quantity and its three peers' are all four devices'. -/
theorem sum_peers (f : Dev nD → EReal) (c : Dev nD) : f c + f (peer c (Fin.rev 0)) + f (peer c (Fin.rev 1)) + f (peer c (Fin.rev 2)) = ∑ d : Dev nD, f d := by
  have h : (∑ d : Dev nD, f d) = f (0 : Fin 4) + f (1 : Fin 4) + f (2 : Fin 4) + f (3 : Fin 4) := Fin.sum_univ_four _
  rw [h]
  fin_cases c
  · show f (0 : Fin 4) + f (3 : Fin 4) + f (2 : Fin 4) + f (1 : Fin 4) = _; abel
  · show f (1 : Fin 4) + f (0 : Fin 4) + f (3 : Fin 4) + f (2 : Fin 4) = _; abel
  · show f (2 : Fin 4) + f (1 : Fin 4) + f (0 : Fin 4) + f (3 : Fin 4) = _; abel
  · show f (3 : Fin 4) + f (2 : Fin 4) + f (1 : Fin 4) + f (0 : Fin 4) = _; abel

/-- Row `(b, s)`'s sum across the devices, and the sum of its squares. -/
def rowSum (b : Fin 4) (s : Fin 1024) : EReal := ∑ d : Dev nD, ∑ k : Fin 256, xArg m d (ix3 b s k)
@[inherit_doc rowSum] def rowSq (b : Fin 4) (s : Fin 1024) : EReal := ∑ d : Dev nD, ∑ k : Fin 256, xArg m d (ix3 b s k) * xArg m d (ix3 b s k)

/-- What a device gathers in the first four rows is the row sums, -/
theorem gathered_sum (c : Dev nD) (b : Fin 4) (s : Fin 1024) :
    part m ρ c (chunkOf s) (ix2 (b.castAdd 4) (rowOf s)) + landed m ρ c (chunkOf s) 0 (ix4 0 0 (b.castAdd 4) (rowOf s))
        + landed m ρ c (chunkOf s) 1 (ix4 0 0 (b.castAdd 4) (rowOf s)) + landed m ρ c (chunkOf s) 2 (ix4 0 0 (b.castAdd 4) (rowOf s))
      = rowSum m b s := by
  simp only [landed_apply, part, part_sum_apply, xchunk_apply]
  exact sum_peers (fun d => ∑ k : Fin 256, xArg m d (ix3 b s k)) c

/-- and in the last four the sums of squares. -/
theorem gathered_sq (c : Dev nD) (b : Fin 4) (s : Fin 1024) :
    part m ρ c (chunkOf s) (ix2 (b.natAdd 4) (rowOf s)) + landed m ρ c (chunkOf s) 0 (ix4 0 0 (b.natAdd 4) (rowOf s))
        + landed m ρ c (chunkOf s) 1 (ix4 0 0 (b.natAdd 4) (rowOf s)) + landed m ρ c (chunkOf s) 2 (ix4 0 0 (b.natAdd 4) (rowOf s))
      = rowSq m b s := by
  simp only [landed_apply, part, part_sq_apply, xchunk_apply]
  exact sum_peers (fun d => ∑ k : Fin 256, xArg m d (ix3 b s k) * xArg m d (ix3 b s k)) c

/-- The result on device `c`, at an index. -/
theorem outBuf_apply (c : Dev nD) (b : Fin 4) (s : Fin 1024) (l : Fin 256) :
    (outBuf m ρ c : FVec Ideal S4x1024x256 .f32) (ix3 b s l)
      = (xArg m c (ix3 b s l) - rowSum m b s * Ideal.ofBits .f32 0x3A800000#32)
          * Ideal.rsqrt (rowSq m b s * Ideal.ofBits .f32 0x3A800000#32
              - rowSum m b s * Ideal.ofBits .f32 0x3A800000#32 * (rowSum m b s * Ideal.ofBits .f32 0x3A800000#32) + Ideal.ofBits .f32 0x3727C5AC#32)
          * (1 + ∑ d : Fin 128, tArg m c (ix2 b d) * wArg m c (ix2 d l))
        + ∑ d : Fin 128, tArg m c (ix2 b d) * uArg m c (ix2 d l) := by
  have h : (outBuf m ρ c : FVec Ideal S4x1024x256 .f32) (ix3 b s l) = outVec m ρ c (chunkOf s) (ix3 b (rowOf s) l) := by
    show outVec m ρ c (chunkOf s) _ = _
    refine congrArg _ (funext fun a => ?_)
    match a with
    | 0 => rfl
    | 1 => rfl
    | 2 => rfl
  rw [h]
  unfold outVec outChunk
  rw [out_apply, factor_apply, mean_apply, gathered_sum, gathered_sq, xchunk_apply, gain, shft, gain_apply, shift_apply, tstg_eq, wstg_eq, ustg_eq]
  rfl

end Cert.KernelProof
-- ==== Proof.Moments.lean ====
/-
  The mathematics: of a row of finite numbers the mean of the squares less the square of the mean is the mean of the squared
  distances from the mean, so normalizing with the one is normalizing with the other.
-/
module

public import Idealize.ShloMosaic.PureOps.Ideal
public import Idealize.ShloMosaic.PureOps.Ideal.Laws

@[expose] public section

noncomputable section

namespace Cert.AdaLn

open Idealize.ShloMosaic

/-! ## The constants -/

/-- The kernel's factor is the reciprocal of the row's length, -/
theorem inv_word : Ideal.ofBits .f32 0x3A800000#32 = (((1 : ℝ) / 1024 : ℝ) : EReal) := by
  simp [Ideal.ofBits, Ideal.ieee, -EReal.coe_mul]; norm_num

/-- the reference's divisor the row's length, -/
theorem len_word : Ideal.ofBits .f32 0x44800000#32 = ((1024 : ℝ) : EReal) := by
  simp [Ideal.ofBits, Ideal.ieee, -EReal.coe_mul]; norm_num

/-- and what both add under the root a positive number. -/
theorem eps_word : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-! ## Rows of real numbers -/

/-- A sum of real numbers is the real number's sum. -/
theorem sum_coe {ι : Type} (s : Finset ι) (r : ι → ℝ) : (∑ k ∈ s, (r k : EReal)) = ((∑ k ∈ s, r k : ℝ) : EReal) := by
  classical
  induction s using Finset.induction_on with
  | empty => rfl
  | insert a s ha ih => rw [Finset.sum_insert ha, Finset.sum_insert ha, ih, EReal.coe_add]

/-- The variance in its two forms. -/
theorem variance_eq (r : Fin 1024 → ℝ) :
    (∑ j, r j * r j) * (1 / 1024) - (∑ j, r j) * (1 / 1024) * ((∑ j, r j) * (1 / 1024))
      = (∑ j, (r j - (∑ k, r k) * (1 / 1024)) * (r j - (∑ k, r k) * (1 / 1024))) * (1 / 1024) := by
  have h (μ : ℝ) : (∑ j, (r j - μ) * (r j - μ)) = (∑ j, r j * r j) - 2 * μ * (∑ j, r j) + 1024 * (μ * μ) := by
    have h1 : ∀ j, (r j - μ) * (r j - μ) = r j * r j - 2 * μ * r j + μ * μ := fun j => by ring
    simp only [h1, Finset.sum_add_distrib, Finset.sum_sub_distrib, ← Finset.mul_sum, Finset.sum_const, Finset.card_univ, Fintype.card_fin, nsmul_eq_mul]
    push_cast; ring
  rw [h]; ring

/-- A row's element normalized by the sum and the sum of squares, times the reciprocal root, is the element normalized by the mean
    and the mean squared distance from it, divided by the root, when the row is finite. -/
theorem normalized_eq (x : Fin 1024 → EReal) (hx : ∀ k, ∃ r : ℝ, x k = r) (y : EReal) (hy : ∃ r : ℝ, y = r) :
    (y - (∑ j, x j) * Ideal.ofBits .f32 0x3A800000#32)
        * Ideal.rsqrt ((∑ j, x j * x j) * Ideal.ofBits .f32 0x3A800000#32
            - (∑ j, x j) * Ideal.ofBits .f32 0x3A800000#32 * ((∑ j, x j) * Ideal.ofBits .f32 0x3A800000#32) + Ideal.ofBits .f32 0x3727C5AC#32)
      = Ideal.div (y - Ideal.div (∑ j, x j) (Ideal.ofBits .f32 0x44800000#32))
          (Ideal.sqrt (Ideal.div (∑ j, (x j - Ideal.div (∑ k, x k) (Ideal.ofBits .f32 0x44800000#32)) * (x j - Ideal.div (∑ k, x k) (Ideal.ofBits .f32 0x44800000#32)))
              (Ideal.ofBits .f32 0x44800000#32) + Ideal.ofBits .f32 0x3727C5AC#32)) := by
  choose r hr using hx
  obtain ⟨q, rfl⟩ := hy
  obtain rfl : x = fun k => (r k : EReal) := funext hr
  obtain ⟨e, he, hw⟩ := eps_word
  have h1024 : (1024 : ℝ) ≠ 0 := by norm_num
  rw [hw, inv_word, len_word]
  simp only [Ideal.div_coe h1024, ← EReal.coe_mul, ← EReal.coe_sub, sum_coe, ← EReal.coe_add]
  rw [variance_eq]
  generalize hv : (∑ j, (r j - (∑ k, r k) * (1 / 1024)) * (r j - (∑ k, r k) * (1 / 1024))) * (1 / 1024) = v
  have hv0 : 0 ≤ v := by
    rw [← hv]
    exact mul_nonneg (Finset.sum_nonneg fun j _ => mul_self_nonneg _) (by norm_num)
  have hp : 0 < v + e := by linarith
  rw [Ideal.rsqrt_coe, Ideal.sqrt_coe, if_neg hp.le.not_gt, if_neg hp.ne', if_neg hp.le.not_gt, Ideal.div_coe (Real.sqrt_pos.mpr hp).ne', one_div (Real.sqrt _)]

end Cert.AdaLn
-- ==== Proof.RefValue.lean ====
/-
  What the reference leaves in the result, element by element, over real arithmetic.
-/
module

public import proofs.«01_k».proof.Proof.Gen.ReferenceIdeal.Run
public import proofs.«01_k».proof.Proof.Moments
public import Idealize.ShloMosaic.Lib.Pointwise

@[expose] public section

noncomputable section

namespace Cert.ReferenceValue

open Cert.ReferenceIdeal Cert.ReferenceIdeal.Gen
open Idealize.ShloMosaic
open Idealize.ShloMosaic.TcCoe
open Idealize.SL.Sem

/-- The rows' means. -/
def mean (x : FVec Ideal S4x1024x1024 .f32) : FVec Ideal S4x1024x1 .f32 :=
  Host.divf (broadcastInDim S4x1024x1 ![0, 1] bcast_S4x1024_S4x1024x1_0_1
      (Host.reduceAdd x (constant S_ .f32 0x00000000#32) reducesTo_S4x1024x1024_S4x1024_d2 h_S_))
    (broadcastInDim S4x1024x1 ![] bcast_S_S4x1024x1 (constant S_ .f32 0x44800000#32))

/-- The distances from the mean. -/
def dist (x : FVec Ideal S4x1024x1024 .f32) : FVec Ideal S4x1024x1024 .f32 :=
  subf x (broadcastInDim S4x1024x1024 ![0, 1, 2] bcast_S4x1024x1_S4x1024x1024_0_1_2 (mean x))

/-- The row's length as the variance divides by it: with no degree of freedom taken off. -/
def len : FVec Ideal S_ .f32 := subf (constant S_ .f32 0x44800000#32) (sitofp .f32 (constantI S_ 32 0#32))

/-- The variances, a not-a-number in their place were the length not positive. -/
def var (x : FVec Ideal S4x1024x1024 .f32) : FVec Ideal S4x1024x1 .f32 :=
  select (broadcastInDim S4x1024x1 ![] bcast_S_S4x1024x1 (cmpf .ogt len (constant S_ .f32 0x00000000#32)))
    (Host.divf (broadcastInDim S4x1024x1 ![0, 1] bcast_S4x1024_S4x1024x1_0_1
        (Host.reduceAdd (mulf (dist x) (dist x)) (constant S_ .f32 0x00000000#32) reducesTo_S4x1024x1024_S4x1024_d2 h_S_))
      (broadcastInDim S4x1024x1 ![] bcast_S_S4x1024x1 len))
    (broadcastInDim S4x1024x1 ![] bcast_S_S4x1024x1 (id (constant S_ .f32 0x7FC00000#32)))

/-- The result. -/
def out (x : FVec Ideal S4x1024x1024 .f32) (t : FVec Ideal S4x128 .f32) (w u : FVec Ideal S128x1024 .f32) : FVec Ideal S4x1024x1024 .f32 :=
  addf (mulf (Host.divf (dist x) (broadcastInDim S4x1024x1024 ![0, 1, 2] bcast_S4x1024x1_S4x1024x1024_0_1_2
        (Host.sqrt (addf (var x) (broadcastInDim S4x1024x1 ![] bcast_S_S4x1024x1 (constant S_ .f32 0x3727C5AC#32))))))
      (broadcastInDim S4x1024x1024 ![0, 1, 2] bcast_S4x1x1024_S4x1024x1024_0_1_2
        (addf (broadcastInDim S4x1x1024 ![] bcast_S_S4x1x1024 (constant S_ .f32 0x3F800000#32))
          (broadcastInDim S4x1x1024 ![0, 2] bcast_S4x1024_S4x1x1024_0_2
            (Host.dotGeneral dot_S4x128_S128x1024_S4x1024_1_0_0_1_n_n none t w)))))
    (broadcastInDim S4x1024x1024 ![0, 1, 2] bcast_S4x1x1024_S4x1024x1024_0_1_2
      (broadcastInDim S4x1x1024 ![0, 2] bcast_S4x1024_S4x1x1024_0_2
        (Host.dotGeneral dot_S4x128_S128x1024_S4x1024_1_0_0_1_n_n none t u)))

theorem mean_apply (x : FVec Ideal S4x1024x1024 .f32) (b : Fin 4) (s : Fin 1024) :
    mean x (ix3 b s 0) = Ideal.div (∑ k : Fin 1024, x (ix3 b s k)) (Ideal.ofBits .f32 0x44800000#32) := by
  pointwise [mean]

theorem dist_apply (x : FVec Ideal S4x1024x1024 .f32) (b : Fin 4) (s k : Fin 1024) :
    dist x (ix3 b s k) = x (ix3 b s k) - mean x (ix3 b s 0) := by
  pointwise [dist]

theorem len_apply (i : S_.Idx) : len i = Ideal.ofBits .f32 0x44800000#32 := by
  pointwise [len]
  have h : (FloatOps.sitofp .f32 (0#32) : Ideal .f32) = (0 : EReal) := by
    show (((0#32 : BitVec 32).toInt : ℝ) : EReal) = 0
    simp
  rw [h]
  exact sub_zero _

theorem var_apply (x : FVec Ideal S4x1024x1024 .f32) (b : Fin 4) (s : Fin 1024) :
    var x (ix3 b s 0) = Ideal.div (∑ k : Fin 1024, dist x (ix3 b s k) * dist x (ix3 b s k)) (Ideal.ofBits .f32 0x44800000#32) := by
  pointwise [var, len_apply]
  have h : (0 : EReal) < Ideal.ofBits .f32 0x44800000#32 := by
    rw [Cert.AdaLn.len_word]
    exact EReal.coe_pos.mpr (by norm_num)
  exact if_pos h

/-- The reference's result at an index. -/
theorem out_apply (x : FVec Ideal S4x1024x1024 .f32) (t : FVec Ideal S4x128 .f32) (w u : FVec Ideal S128x1024 .f32) (b : Fin 4) (s l : Fin 1024) :
    out x t w u (ix3 b s l)
      = Ideal.div (dist x (ix3 b s l)) (Ideal.sqrt (var x (ix3 b s 0) + Ideal.ofBits .f32 0x3727C5AC#32))
          * (1 + ∑ d : Fin 128, t (ix2 b d) * w (ix2 d l))
        + ∑ d : Fin 128, t (ix2 b d) * u (ix2 d l) := by
  pointwise [out]

/-- The reference's run with its result so named. -/
theorem run_out (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v21)
          = out (m ((c : Thread nD τ).loc main_arg0)) (m ((c : Thread nD τ).loc main_arg1)) (m ((c : Thread nD τ).loc main_arg2)) (m ((c : Thread nD τ).loc main_arg3))
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3) :=
  Cert.ReferenceIdeal.Value.run m ρ

end Cert.ReferenceValue
-- ==== Proof.Algebraic.lean ====
/-
  The kernel's result on every device is its block of columns of the reference's result, when the activations are finite.
-/
module

public import proofs.«01_k».proof.Proof.Frames
public import proofs.«01_k».proof.Proof.KernelValue
public import proofs.«01_k».proof.Proof.RefValue

@[expose] public section

noncomputable section

namespace Cert.Algebraic

open Idealize.ShloMosaic
open Idealize.ShloMosaic.TcCoe
open Idealize.SL.Sem
open Cert.KernelIdeal (S4x1024x256 S128x256 S4x128 nD)
open Cert.ReferenceIdeal (S4x1024x1024 S128x1024)
open Cert.KernelProof (xArg tArg wArg uArg rowSum rowSq outBuf outBuf_apply)

/-! ## The columns -/

/-- Column `k` of device `c`'s block, in the whole array. -/
def colAt (c : Fin 4) (k : Fin 256) : Fin 1024 := ⟨c.val * 256 + k.val, by have := c.isLt; have := k.isLt; omega⟩

/-- Summing over the devices and each one's columns is summing over all columns. -/
theorem sum_cols (f : Fin 1024 → EReal) : (∑ d : Fin 4, ∑ k : Fin 256, f (colAt d k)) = ∑ l : Fin 1024, f l := by
  rw [← Fintype.sum_prod_type' (fun d k => f (colAt d k))]
  refine Fintype.sum_equiv (finProdFinEquiv : Fin 4 × Fin 256 ≃ Fin 1024) _ _ fun y => congrArg f (Fin.ext ?_)
  show y.1.val * 256 + y.2.val = y.2.val + 256 * y.1.val
  omega

/-- Every column is one of some device's. -/
theorem exists_col (l : Fin 1024) : ∃ (c : Fin 4) (k : Fin 256), l = colAt c k :=
  ⟨⟨l.val / 256, by have := l.isLt; omega⟩, ⟨l.val % 256, Nat.mod_lt _ (by decide)⟩, Fin.ext (by show l.val = l.val / 256 * 256 + l.val % 256; omega)⟩

/-- A device's block of an array of three axes split by columns, at an index, -/
theorem block3_apply (v : FVec Ideal S4x1024x1024 .f32) (c : Fin 4) (b : Fin 4) (s : Fin 1024) (k : Fin 256) :
    (Layout.block ⟨3, ![4, 1024, 256]⟩ ⟨3, ![4, 1024, 1024]⟩ 2 4 c v : FVec Ideal S4x1024x256 .f32) (ix3 b s k) = v (ix3 b s (colAt c k)) := by
  rw [Layout.block_apply]
  refine congrArg v (funext fun a => Fin.ext ?_)
  match a with
  | 0 => rfl
  | 1 => rfl
  | 2 => rfl

/-- and of one of two axes. -/
theorem block2_apply (v : FVec Ideal S128x1024 .f32) (c : Fin 4) (d : Fin 128) (k : Fin 256) :
    (Layout.block ⟨2, ![128, 256]⟩ ⟨2, ![128, 1024]⟩ 1 4 c v : FVec Ideal S128x256 .f32) (ix2 d k) = v (ix2 d (colAt c k)) := by
  rw [Layout.block_apply]
  refine congrArg v (funext fun a => Fin.ext ?_)
  match a with
  | 0 => rfl
  | 1 => rfl

/-! ## Finiteness -/

/-- A number whose absolute value is below the infinite is real. -/
theorem real_of_abs_lt (x : EReal) (h : max x (-x) < ⊤) : ∃ r : ℝ, x = r := by
  induction x using EReal.rec with
  | bot => simp at h
  | coe r => exact ⟨r, rfl⟩
  | top => simp at h

/-- What the precondition says of one device's block. -/
theorem finite_of_pre (m : (ℓ : Loc nD Cert.KernelIdeal.τ Cert.KernelIdeal.sig) → Buf (Elt Ideal) ℓ)
    (hpre : Cert.Pre_KernelIdeal_finite_x_KernelIdeal m) (c : Dev nD) (b : Fin 4) (s : Fin 1024) (k : Fin 256) :
    ∃ r : ℝ, xArg m c (ix3 b s k) = r := by
  have h := congrFun (hpre c) (ix3 b s k)
  have hinf : Ideal.ofBits .f32 0x7F800000#32 = ⊤ := by simp [Ideal.ofBits, Ideal.ieee]
  refine real_of_abs_lt _ ?_
  change BitVec.ofBool (decide (max (xArg m c (ix3 b s k)) (-xArg m c (ix3 b s k)) < Ideal.ofBits .f32 0x7F800000#32)) = 1#1 at h
  rw [hinf] at h
  by_contra hn
  rw [decide_eq_false hn] at h
  exact absurd h (by decide)

/-! ## The values -/

section Values

variable (m : (ℓ : Loc nD Cert.KernelIdeal.τ Cert.KernelIdeal.sig) → Buf (Elt Ideal) ℓ) (ρ : Dev nD → PrngReg)
  (x : FVec Ideal S4x1024x1024 .f32) (t : FVec Ideal S4x128 .f32) (w u : FVec Ideal S128x1024 .f32)

/-- The devices' blocks are the whole arrays'. -/
structure Split : Prop where
  x : ∀ c : Dev nD, xArg m c = Layout.block ⟨3, ![4, 1024, 256]⟩ ⟨3, ![4, 1024, 1024]⟩ 2 4 c x
  t : ∀ c : Dev nD, tArg m c = t
  w : ∀ c : Dev nD, wArg m c = Layout.block ⟨2, ![128, 256]⟩ ⟨2, ![128, 1024]⟩ 1 4 c w
  u : ∀ c : Dev nD, uArg m c = Layout.block ⟨2, ![128, 256]⟩ ⟨2, ![128, 1024]⟩ 1 4 c u

variable {m x t w u}

theorem xArg_apply (h : Split m x t w u) (c : Dev nD) (b : Fin 4) (s : Fin 1024) (k : Fin 256) :
    xArg m c (ix3 b s k) = x (ix3 b s (colAt c k)) := by rw [h.x c]; exact block3_apply x c b s k

/-- The row sums across the devices are the whole rows'. -/
theorem rowSum_eq (h : Split m x t w u) (b : Fin 4) (s : Fin 1024) : rowSum m b s = ∑ l : Fin 1024, x (ix3 b s l) := by
  rw [← sum_cols]
  exact Finset.sum_congr rfl fun d _ => Finset.sum_congr rfl fun k _ => xArg_apply h d b s k

theorem rowSq_eq (h : Split m x t w u) (b : Fin 4) (s : Fin 1024) : rowSq m b s = ∑ l : Fin 1024, x (ix3 b s l) * x (ix3 b s l) := by
  rw [← sum_cols (fun l => x (ix3 b s l) * x (ix3 b s l))]
  exact Finset.sum_congr rfl fun d _ => Finset.sum_congr rfl fun k _ => by rw [xArg_apply h d b s k]

/-- A device's result is its block of the reference's. -/
theorem outBuf_eq (h : Split m x t w u) (hfin : ∀ i, ∃ r : ℝ, x i = r) (c : Dev nD) :
    (outBuf m ρ c : FVec Ideal S4x1024x256 .f32) = Layout.block ⟨3, ![4, 1024, 256]⟩ ⟨3, ![4, 1024, 1024]⟩ 2 4 c (Cert.ReferenceValue.out x t w u) := by
  funext i
  obtain ⟨b, s, k, rfl⟩ : ∃ (b : Fin 4) (s : Fin 1024) (k : Fin 256), i = ix3 b s k :=
    ⟨i 0, i 1, i 2, funext fun a => match a with | 0 => rfl | 1 => rfl | 2 => rfl⟩
  refine (outBuf_apply m ρ c b s k).trans ?_
  refine Eq.trans ?_ (block3_apply _ c b s k).symm
  rw [Cert.ReferenceValue.out_apply, Cert.ReferenceValue.var_apply]
  simp only [Cert.ReferenceValue.dist_apply, Cert.ReferenceValue.mean_apply]
  rw [rowSum_eq h, rowSq_eq h, xArg_apply h,
    Cert.AdaLn.normalized_eq (fun l => x (ix3 b s l)) (fun l => hfin _) (x (ix3 b s (colAt c k))) (hfin _), h.t c, h.w c, h.u c]
  refine congrArg₂ (· + ·) (congrArg₂ (· * ·) rfl (congrArg (1 + ·) ?_)) ?_
  · exact Finset.sum_congr rfl fun d _ => congrArg (t (ix2 b d) * ·) (block2_apply w c d k)
  · exact Finset.sum_congr rfl fun d _ => congrArg (t (ix2 b d) * ·) (block2_apply u c d k)

end Values

/-! ## The claim -/

/-- The two programs agree on finite activations. -/
theorem algebraic : Cert.algebraic_KernelIdeal_ReferenceIdeal_pre_finite_x_KernelIdeal := by
  intro m ρ m' ρ' hpre hargs
  have h : Split m (m' (((0 : Dev Cert.ReferenceIdeal.nD) : Thread Cert.ReferenceIdeal.nD Cert.ReferenceIdeal.τ).loc Cert.ReferenceIdeal.main_arg0))
      (m' (((0 : Dev Cert.ReferenceIdeal.nD) : Thread Cert.ReferenceIdeal.nD Cert.ReferenceIdeal.τ).loc Cert.ReferenceIdeal.main_arg1))
      (m' (((0 : Dev Cert.ReferenceIdeal.nD) : Thread Cert.ReferenceIdeal.nD Cert.ReferenceIdeal.τ).loc Cert.ReferenceIdeal.main_arg2))
      (m' (((0 : Dev Cert.ReferenceIdeal.nD) : Thread Cert.ReferenceIdeal.nD Cert.ReferenceIdeal.τ).loc Cert.ReferenceIdeal.main_arg3)) :=
    ⟨fun c => (hargs c).1, fun c => (hargs c).2.1, fun c => (hargs c).2.2.1, fun c => (hargs c).2.2.2⟩
  refine ⟨Cert.ReferenceValue.out _ _ _ _, (θ_run _ _ _).mono (fun r hr c => ?_) (Cert.KernelProof.run_ends m ρ),
    (θ_run _ _ _).mono (fun r hr => hr 0) (Cert.ReferenceValue.run_out m' ρ')⟩
  have hk := (hr.1 c).2
  refine ⟨(hr.1 c).1.trans (outBuf_eq ρ h (fun i => ?_) c), ?_⟩
  · obtain ⟨b, s, l, rfl⟩ : ∃ (b : Fin 4) (s : Fin 1024) (l : Fin 1024), i = ix3 b s l :=
      ⟨i 0, i 1, i 2, funext fun a => match a with | 0 => rfl | 1 => rfl | 2 => rfl⟩
    obtain ⟨d, k, rfl⟩ := exists_col l
    rw [← xArg_apply h d b s k]
    exact finite_of_pre m hpre d b s k
  · exact hk

end Cert.Algebraic
-- ==== Proof.lean ====
/-
  The certificate's claim: each program terminates without fault, leaves its arguments unchanged and every semaphore counter at
  zero; the ideal program is the kernel over the extended reals; and the kernel computes the reference's function there, device
  `c` holding block `c` of its columns, when the activations are finite.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Cert.Frames

theorem claim : Cert.Claim :=
  ⟨Cert.Kernel.Gen.facts, Cert.KernelIdeal.Gen.facts, Cert.ReferenceIdeal.Gen.facts, preKernel, preReference,
    frame_kernel, frame_kernelIdeal, frame_kernelIdeal_pre, frame_reference, frame_reference_pre, trivial, Cert.Algebraic.algebraic⟩

end Cert.Proof

end
